-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel)
    ∧ quiescent_KernelIdeal (hKernelIdeal := hKernelIdeal)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_sorted_segments.lean ====
abbrev S5x5120x28x128 : Shape := ⟨4, ![5, 5120, 28, 128]⟩
abbrev S28 : Shape := ⟨1, ![28]⟩
abbrev S5x5120x4x128 : Shape := ⟨4, ![5, 5120, 4, 128]⟩
abbrev S4 : Shape := ⟨1, ![4]⟩
abbrev S4x128 : Shape := ⟨2, ![4, 128]⟩
abbrev S5x5120 : Shape := ⟨2, ![5, 5120]⟩
abbrev S_ : Shape := ⟨0, ![]⟩
abbrev S5x5119 : Shape := ⟨2, ![5, 5119]⟩

class Facts : Prop where
  slices_S5x5120_S5x5119_0_0 : S5x5120.Slices ![0, 0] S5x5119
  slices_S5x5120_S5x5119_0_1 : S5x5120.Slices ![0, 1] S5x5119

variable [Facts]

def fn {F : FTy → Type} [FloatOps F] (main_arg0 : FVec F S5x5120x28x128 .fp8e4m3) (main_arg1 : FVec F S28 .f32) (main_arg2 : FVec F S5x5120x4x128 .fp8e4m3) (main_arg3 : FVec F S4 .f32) (main_arg4 : FVec F S5x5120x4x128 .fp8e4m3) (main_arg5 : FVec F S4x128 .f32) (main_arg6 : IVec S5x5120 32) (main_arg7 : FVec F S_ .f32) : IVec S5x5119 1 :=
  let main_v0 : IVec S5x5119 32 := (extractStridedSlice S5x5119 ![0, 0] · slices_S5x5120_S5x5119_0_0) main_arg6
  let main_v1 : IVec S5x5119 32 := (extractStridedSlice S5x5119 ![0, 1] · slices_S5x5120_S5x5119_0_1) main_arg6
  let main_v2 : IVec S5x5119 1 := cmpi .sle main_v0 main_v1
  main_v2
-- ==== Kernel.lean ====
abbrev S5x5120x28x128 : Shape := ⟨4, ![5, 5120, 28, 128]⟩
abbrev S28 : Shape := ⟨1, ![28]⟩
abbrev S5x5120x4x128 : Shape := ⟨4, ![5, 5120, 4, 128]⟩
abbrev S4 : Shape := ⟨1, ![4]⟩
abbrev S4x128 : Shape := ⟨2, ![4, 128]⟩
abbrev S5x5120 : Shape := ⟨2, ![5, 5120]⟩
abbrev S_ : Shape := ⟨0, ![]⟩
abbrev S4x7 : Shape := ⟨2, ![4, 7]⟩
abbrev S4x1 : Shape := ⟨2, ![4, 1]⟩
abbrev S5x28x5120x128 : Shape := ⟨4, ![5, 28, 5120, 128]⟩
abbrev S5x4x5120x128 : Shape := ⟨4, ![5, 4, 5120, 128]⟩
abbrev S5x40 : Shape := ⟨2, ![5, 40]⟩
abbrev S5x1x5120 : Shape := ⟨3, ![5, 1, 5120]⟩
abbrev S5x40x1 : Shape := ⟨3, ![5, 40, 1]⟩
abbrev S5x40x5120 : Shape := ⟨3, ![5, 40, 5120]⟩
abbrev S4x1x128 : Shape := ⟨3, ![4, 1, 128]⟩
abbrev S1 : Shape := ⟨1, ![1]⟩
abbrev S5x5120x1 : Shape := ⟨3, ![5, 5120, 1]⟩
abbrev S5x5120x128 : Shape := ⟨3, ![5, 5120, 128]⟩
abbrev S5x5120x3584 : Shape := ⟨3, ![5, 5120, 3584]⟩
abbrev S1x7x128x128 : Shape := ⟨4, ![1, 7, 128, 128]⟩
abbrev S1x1x5120x128 : Shape := ⟨4, ![1, 1, 5120, 128]⟩
abbrev S1x128x128 : Shape := ⟨3, ![1, 128, 128]⟩
abbrev S1x1x5120 : Shape := ⟨3, ![1, 1, 5120]⟩
abbrev S1x1x128 : Shape := ⟨3, ![1, 1, 128]⟩
abbrev S1x128x896 : Shape := ⟨3, ![1, 128, 896]⟩
abbrev S7x128x128 : Shape := ⟨3, ![7, 128, 128]⟩
abbrev S1x128x1 : Shape := ⟨3, ![1, 128, 1]⟩
abbrev S128x1 : Shape := ⟨2, ![128, 1]⟩
abbrev S128x256 : Shape := ⟨2, ![128, 256]⟩
abbrev S1x1 : Shape := ⟨2, ![1, 1]⟩
abbrev S1x1x256x128 : Shape := ⟨4, ![1, 1, 256, 128]⟩
abbrev S256x128 : Shape := ⟨2, ![256, 128]⟩
abbrev S1x1x256 : Shape := ⟨3, ![1, 1, 256]⟩
abbrev S1x256 : Shape := ⟨2, ![1, 256]⟩
abbrev S1x1x128x128 : Shape := ⟨4, ![1, 1, 128, 128]⟩
abbrev S128x128 : Shape := ⟨2, ![128, 128]⟩
abbrev S1x128 : Shape := ⟨2, ![1, 128]⟩

abbrev nBuf : Space → Nat
  | .hbm => 37
  | .vmem => 15
  | .smem => 3
  | _ => 0

abbrev bufTy : (tb : Table) → Fin (tcTables nBuf tb) → BufTy
  | .hbm, ⟨0, _⟩ => ⟨S5x5120x28x128, .fp8e4m3⟩
  | .hbm, ⟨1, _⟩ => ⟨S28, .f32⟩
  | .hbm, ⟨2, _⟩ => ⟨S5x5120x4x128, .fp8e4m3⟩
  | .hbm, ⟨3, _⟩ => ⟨S4, .f32⟩
  | .hbm, ⟨4, _⟩ => ⟨S5x5120x4x128, .fp8e4m3⟩
  | .hbm, ⟨5, _⟩ => ⟨S4x128, .f32⟩
  | .hbm, ⟨6, _⟩ => ⟨S5x5120, .i32⟩
  | .hbm, ⟨7, _⟩ => ⟨S_, .f32⟩
  | .hbm, ⟨8, _⟩ => ⟨S4x7, .f32⟩
  | .hbm, ⟨9, _⟩ => ⟨S4x1, .f32⟩
  | .hbm, ⟨10, _⟩ => ⟨S4x7, .f32⟩
  | .hbm, ⟨11, _⟩ => ⟨S4x7, .f32⟩
  | .hbm, ⟨12, _⟩ => ⟨S_, .f32⟩
  | .hbm, ⟨13, _⟩ => ⟨S4x7, .f32⟩
  | .hbm, ⟨14, _⟩ => ⟨S4x7, .f32⟩
  | .hbm, ⟨15, _⟩ => ⟨S5x28x5120x128, .fp8e4m3⟩
  | .hbm, ⟨16, _⟩ => ⟨S5x4x5120x128, .fp8e4m3⟩
  | .hbm, ⟨17, _⟩ => ⟨S5x4x5120x128, .fp8e4m3⟩
  | .hbm, ⟨18, _⟩ => ⟨S5x40, .i32⟩
  | .hbm, ⟨19, _⟩ => ⟨S5x1x5120, .i32⟩
  | .hbm, ⟨20, _⟩ => ⟨S5x40x1, .i32⟩
  | .hbm, ⟨21, _⟩ => ⟨S5x40x5120, .i32⟩
  | .hbm, ⟨22, _⟩ => ⟨S5x40x5120, .i32⟩
  | .hbm, ⟨23, _⟩ => ⟨S5x40x5120, .i1⟩
  | .hbm, ⟨24, _⟩ => ⟨S5x40x5120, .i32⟩
  | .hbm, ⟨25, _⟩ => ⟨S_, .i32⟩
  | .hbm, ⟨26, _⟩ => ⟨S5x40, .i32⟩
  | .hbm, ⟨27, _⟩ => ⟨S4x128, .f32⟩
  | .hbm, ⟨28, _⟩ => ⟨S4x128, .f32⟩
  | .hbm, ⟨29, _⟩ => ⟨S4x1x128, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S5x5120x1, .i32⟩
  | .hbm, ⟨34, _⟩ => ⟨S5x5120x128, .i32⟩
  | .hbm, ⟨35, _⟩ => ⟨S5x1x5120, .i32⟩
  | .hbm, ⟨36, _⟩ => ⟨S5x5120x3584, .bf16⟩
  | .local _ .vmem, ⟨0, _⟩ => ⟨S1x7x128x128, .fp8e4m3⟩
  | .local _ .vmem, ⟨1, _⟩ => ⟨S1x7x128x128, .fp8e4m3⟩
  | .local _ .vmem, ⟨2, _⟩ => ⟨S1x1x5120x128, .fp8e4m3⟩
  | .local _ .vmem, ⟨3, _⟩ => ⟨S1x1x5120x128, .fp8e4m3⟩
  | .local _ .vmem, ⟨4, _⟩ => ⟨S1x1x5120x128, .fp8e4m3⟩
  | .local _ .vmem, ⟨5, _⟩ => ⟨S1x1x5120x128, .fp8e4m3⟩
  | .local _ .vmem, ⟨6, _⟩ => ⟨S1x128x128, .i32⟩
  | .local _ .vmem, ⟨7, _⟩ => ⟨S1x128x128, .i32⟩
  | .local _ .vmem, ⟨8, _⟩ => ⟨S1x1x5120, .i32⟩
  | .local _ .vmem, ⟨9, _⟩ => ⟨S1x1x5120, .i32⟩
  | .local _ .vmem, ⟨10, _⟩ => ⟨S1x1x128, .f32⟩
  | .local _ .vmem, ⟨11, _⟩ => ⟨S1x1x128, .f32⟩
  | .local _ .vmem, ⟨12, _⟩ => ⟨S1x128x896, .bf16⟩
  | .local _ .vmem, ⟨13, _⟩ => ⟨S1x128x896, .bf16⟩
  | .local _ .vmem, ⟨14, _⟩ => ⟨S7x128x128, .f32⟩
  | .local _ .smem, ⟨0, _⟩ => ⟨S5x40, .i32⟩
  | .local _ .smem, ⟨1, _⟩ => ⟨S4x7, .f32⟩
  | .local _ .smem, ⟨2, _⟩ => ⟨S1, .f32⟩
  | _, _ => ⟨S5x5120x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![5, 4, 40], ![false, false, false]⟩

def k0_off1 (i : grid0.Coords) : Fin 2 → Nat :=
  let arg0 : BitVec 32 := BitVec.ofNat 32 (i 0).val
  let v12 : Index := Scalar.indexCast arg0
  let arg2 : BitVec 32 := BitVec.ofNat 32 (i 2).val
  let v13 : Index := Scalar.indexCast arg2
  ![v12.toNat, v13.toNat]
@[reducible] def k0_t1_loop (i : grid0.Coords) (v14 : BitVec 32) : Scf.Loop 32 :=
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let arg2 : BitVec 32 := BitVec.ofNat 32 (i 2).val
  let c128_i32 : BitVec 32 := 128#32
  let v0 : BitVec 32 := Scalar.muli arg2 c128_i32
  let c128_i32_10 : BitVec 32 := 128#32
  let v32 : BitVec 32 := Scalar.addi v0 c128_i32_10
  let c255_i32 : BitVec 32 := 255#32
  let v33 : BitVec 32 := Scalar.addi v32 c255_i32
  let c256_i32_11 : BitVec 32 := 256#32
  let v34 : BitVec 32 := Scalar.divsi v33 c256_i32_11
  let v35 : BitVec 32 := Scalar.subi v34 v31
  let c1_i32_13 : BitVec 32 := 1#32
  let v37 : BitVec 32 := Scalar.divsi v35 c1_i32_13
  let v38 : BitVec 32 := Scalar.muli v37 c1_i32_13
  let v39 : BitVec 32 := Scalar.addi v31 v38
  let c1_i32_14 : BitVec 32 := 1#32
  ⟨v31, v39, c1_i32_14⟩

def k0_mult1 (i : grid0.Coords) (v14 : BitVec 32) (k0_t1 : Fin (k0_t1_loop i v14).trips) : BitVec 32 :=
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let c1_i32_14 : BitVec 32 := 1#32
  let arg14 : BitVec 32 := Scf.iv v31 c1_i32_14 k0_t1
  let c256_i32_67 : BitVec 32 := 256#32
  let v110 : BitVec 32 := Scalar.muli arg14 c256_i32_67
  v110
def k0_off2 (i : grid0.Coords) (v14 : BitVec 32) (k0_t1 : Fin (k0_t1_loop i v14).trips) : Fin 4 → Nat :=
  let c0_68 : Index := 0#32
  let c0_69 : Index := 0#32
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let c1_i32_14 : BitVec 32 := 1#32
  let arg14 : BitVec 32 := Scf.iv v31 c1_i32_14 k0_t1
  let c256_i32_67 : BitVec 32 := 256#32
  let v110 : BitVec 32 := Scalar.muli arg14 c256_i32_67
  let v111 : BitVec 32 := v110
  let v112 : Index := Scalar.indexCast v111
  let c0_70 : Index := 0#32
  ![0, 0, v112.toNat, 0]
def k0_off3 (i : grid0.Coords) (v14 : BitVec 32) (k0_t1 : Fin (k0_t1_loop i v14).trips) : Fin 3 → Nat :=
  let c0_74 : Index := 0#32
  let c0_75 : Index := 0#32
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let c1_i32_14 : BitVec 32 := 1#32
  let arg14 : BitVec 32 := Scf.iv v31 c1_i32_14 k0_t1
  let c256_i32_67 : BitVec 32 := 256#32
  let v110 : BitVec 32 := Scalar.muli arg14 c256_i32_67
  let v111 : BitVec 32 := v110
  let v118 : Index := Scalar.indexCast v111
  ![0, 0, v118.toNat]
def k0_off4 (i : grid0.Coords) : Fin 2 → Nat :=
  let arg1 : BitVec 32 := BitVec.ofNat 32 (i 1).val
  let v131 : Index := Scalar.indexCast arg1
  let c0_81 : Index := 0#32
  ![v131.toNat, 0]
def k0_off5 (i : grid0.Coords) : Fin 2 → Nat :=
  let arg1 : BitVec 32 := BitVec.ofNat 32 (i 1).val
  let v157 : Index := Scalar.indexCast arg1
  let c1_98 : Index := 1#32
  ![v157.toNat, 1]
def k0_off6 (i : grid0.Coords) : Fin 2 → Nat :=
  let arg1 : BitVec 32 := BitVec.ofNat 32 (i 1).val
  let v183 : Index := Scalar.indexCast arg1
  let c2_115 : Index := 2#32
  ![v183.toNat, 2]
def k0_off7 (i : grid0.Coords) : Fin 2 → Nat :=
  let arg1 : BitVec 32 := BitVec.ofNat 32 (i 1).val
  let v209 : Index := Scalar.indexCast arg1
  let c3_132 : Index := 3#32
  ![v209.toNat, 3]
def k0_off8 (i : grid0.Coords) : Fin 2 → Nat :=
  let arg1 : BitVec 32 := BitVec.ofNat 32 (i 1).val
  let v235 : Index := Scalar.indexCast arg1
  let c4_149 : Index := 4#32
  ![v235.toNat, 4]
def k0_off9 (i : grid0.Coords) : Fin 2 → Nat :=
  let arg1 : BitVec 32 := BitVec.ofNat 32 (i 1).val
  let v261 : Index := Scalar.indexCast arg1
  let c5_166 : Index := 5#32
  ![v261.toNat, 5]
def k0_off10 (i : grid0.Coords) : Fin 2 → Nat :=
  let arg1 : BitVec 32 := BitVec.ofNat 32 (i 1).val
  let v287 : Index := Scalar.indexCast arg1
  let c6_183 : Index := 6#32
  ![v287.toNat, 6]
@[reducible] def k0_t2_loop (i : grid0.Coords) (v14 : BitVec 32) : Scf.Loop 32 :=
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let arg2 : BitVec 32 := BitVec.ofNat 32 (i 2).val
  let c128_i32 : BitVec 32 := 128#32
  let v0 : BitVec 32 := Scalar.muli arg2 c128_i32
  let c128_i32_10 : BitVec 32 := 128#32
  let v32 : BitVec 32 := Scalar.addi v0 c128_i32_10
  let c255_i32 : BitVec 32 := 255#32
  let v33 : BitVec 32 := Scalar.addi v32 c255_i32
  let c256_i32_11 : BitVec 32 := 256#32
  let v34 : BitVec 32 := Scalar.divsi v33 c256_i32_11
  let v35 : BitVec 32 := Scalar.subi v34 v31
  let c1_i32_13 : BitVec 32 := 1#32
  let v37 : BitVec 32 := Scalar.divsi v35 c1_i32_13
  let v38 : BitVec 32 := Scalar.muli v37 c1_i32_13
  let v39 : BitVec 32 := Scalar.addi v31 v38
  let v36 : BitVec 32 := Scalar.addi v31 v35
  let c1_i32_15 : BitVec 32 := 1#32
  ⟨v39, v36, c1_i32_15⟩
def k0_mult2 (i : grid0.Coords) (v14 : BitVec 32) (k0_t2 : Fin (k0_t2_loop i v14).trips) : BitVec 32 :=
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let arg2 : BitVec 32 := BitVec.ofNat 32 (i 2).val
  let c128_i32 : BitVec 32 := 128#32
  let v0 : BitVec 32 := Scalar.muli arg2 c128_i32
  let c128_i32_10 : BitVec 32 := 128#32
  let v32 : BitVec 32 := Scalar.addi v0 c128_i32_10
  let c255_i32 : BitVec 32 := 255#32
  let v33 : BitVec 32 := Scalar.addi v32 c255_i32
  let c256_i32_11 : BitVec 32 := 256#32
  let v34 : BitVec 32 := Scalar.divsi v33 c256_i32_11
  let v35 : BitVec 32 := Scalar.subi v34 v31
  let c1_i32_13 : BitVec 32 := 1#32
  let v37 : BitVec 32 := Scalar.divsi v35 c1_i32_13
  let v38 : BitVec 32 := Scalar.muli v37 c1_i32_13
  let v39 : BitVec 32 := Scalar.addi v31 v38
  let c1_i32_15 : BitVec 32 := 1#32
  let arg14 : BitVec 32 := Scf.iv v39 c1_i32_15 k0_t2
  let c256_i32_67 : BitVec 32 := 256#32
  let v110 : BitVec 32 := Scalar.muli arg14 c256_i32_67
  v110
def k0_off11 (i : grid0.Coords) (v14 : BitVec 32) (k0_t2 : Fin (k0_t2_loop i v14).trips) : Fin 4 → Nat :=
  let c0_68 : Index := 0#32
  let c0_69 : Index := 0#32
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let arg2 : BitVec 32 := BitVec.ofNat 32 (i 2).val
  let c128_i32 : BitVec 32 := 128#32
  let v0 : BitVec 32 := Scalar.muli arg2 c128_i32
  let c128_i32_10 : BitVec 32 := 128#32
  let v32 : BitVec 32 := Scalar.addi v0 c128_i32_10
  let c255_i32 : BitVec 32 := 255#32
  let v33 : BitVec 32 := Scalar.addi v32 c255_i32
  let c256_i32_11 : BitVec 32 := 256#32
  let v34 : BitVec 32 := Scalar.divsi v33 c256_i32_11
  let v35 : BitVec 32 := Scalar.subi v34 v31
  let c1_i32_13 : BitVec 32 := 1#32
  let v37 : BitVec 32 := Scalar.divsi v35 c1_i32_13
  let v38 : BitVec 32 := Scalar.muli v37 c1_i32_13
  let v39 : BitVec 32 := Scalar.addi v31 v38
  let c1_i32_15 : BitVec 32 := 1#32
  let arg14 : BitVec 32 := Scf.iv v39 c1_i32_15 k0_t2
  let c256_i32_67 : BitVec 32 := 256#32
  let v110 : BitVec 32 := Scalar.muli arg14 c256_i32_67
  let v111 : BitVec 32 := v110
  let v112 : Index := Scalar.indexCast v111
  let c0_70 : Index := 0#32
  ![0, 0, v112.toNat, 0]
def k0_off12 (i : grid0.Coords) (v14 : BitVec 32) (k0_t2 : Fin (k0_t2_loop i v14).trips) : Fin 3 → Nat :=
  let c0_74 : Index := 0#32
  let c0_75 : Index := 0#32
  let c0_i32 : BitVec 32 := 0#32
  let v16 : BitVec 1 := Scalar.cmpi .sgt v14 c0_i32
  let v17 : BitVec 32 := Scalar.extui v16
  let c0_i32_6 : BitVec 32 := 0#32
  let v18 : BitVec 1 := Scalar.cmpi .slt v14 c0_i32_6
  let v19 : BitVec 32 := Scalar.extui v18
  let v20 : BitVec 32 := Scalar.subi v17 v19
  let c256_i32 : BitVec 32 := 256#32
  let c0_i32_7 : BitVec 32 := 0#32
  let v21 : BitVec 1 := Scalar.cmpi .sgt c256_i32 c0_i32_7
  let v22 : BitVec 32 := Scalar.extui v21
  let c0_i32_8 : BitVec 32 := 0#32
  let v23 : BitVec 1 := Scalar.cmpi .slt c256_i32 c0_i32_8
  let v24 : BitVec 32 := Scalar.extui v23
  let v25 : BitVec 32 := Scalar.subi v22 v24
  let v26 : BitVec 1 := Scalar.cmpi .ne v20 v25
  let v27 : BitVec 32 := Scalar.remsi v14 c256_i32
  let c0_i32_9 : BitVec 32 := 0#32
  let v28 : BitVec 1 := Scalar.cmpi .ne v27 c0_i32_9
  let v29 : BitVec 1 := Scalar.andi v26 v28
  let v15 : BitVec 32 := Scalar.divsi v14 c256_i32
  let c1_i32 : BitVec 32 := 1#32
  let v30 : BitVec 32 := Scalar.subi v15 c1_i32
  let v31 : BitVec 32 := Scalar.select v29 v30 v15
  let arg2 : BitVec 32 := BitVec.ofNat 32 (i 2).val
  let c128_i32 : BitVec 32 := 128#32
  let v0 : BitVec 32 := Scalar.muli arg2 c128_i32
  let c128_i32_10 : BitVec 32 := 128#32
  let v32 : BitVec 32 := Scalar.addi v0 c128_i32_10
  let c255_i32 : BitVec 32 := 255#32
  let v33 : BitVec 32 := Scalar.addi v32 c255_i32
  let c256_i32_11 : BitVec 32 := 256#32
  let v34 : BitVec 32 := Scalar.divsi v33 c256_i32_11
  let v35 : BitVec 32 := Scalar.subi v34 v31
  let c1_i32_13 : BitVec 32 := 1#32
  let v37 : BitVec 32 := Scalar.divsi v35 c1_i32_13
  let v38 : BitVec 32 := Scalar.muli v37 c1_i32_13
  let v39 : BitVec 32 := Scalar.addi v31 v38
  let c1_i32_15 : BitVec 32 := 1#32
  let arg14 : BitVec 32 := Scf.iv v39 c1_i32_15 k0_t2
  let c256_i32_67 : BitVec 32 := 256#32
  let v110 : BitVec 32 := Scalar.muli arg14 c256_i32_67
  let v111 : BitVec 32 := v110
  let v118 : Index := Scalar.indexCast v111
  ![0, 0, v118.toNat]

def k0_chk1 (i : grid0.Coords) (v14 : BitVec 32) : Prop :=
  ((k0_t1_loop i v14).OK) ∧
  (∀ k0_t1 : Fin (k0_t1_loop i v14).trips, 256 ∣ (k0_mult1 i v14 k0_t1).toNat) ∧
  (∀ k0_t1 : Fin (k0_t1_loop i v14).trips, ∀ a, (k0_off2 i v14 k0_t1) a + S1x1x256x128.size a ≤ S1x1x5120x128.size a) ∧
  (∀ k0_t1 : Fin (k0_t1_loop i v14).trips, ∀ a, (k0_off3 i v14 k0_t1) a + S1x1x256.size a ≤ S1x1x5120.size a) ∧
  ((k0_t2_loop i v14).OK) ∧
  (∀ k0_t2 : Fin (k0_t2_loop i v14).trips, 256 ∣ (k0_mult2 i v14 k0_t2).toNat) ∧
  (∀ k0_t2 : Fin (k0_t2_loop i v14).trips, ∀ a, (k0_off11 i v14 k0_t2) a + S1x1x256x128.size a ≤ S1x1x5120x128.size a) ∧
  (∀ k0_t2 : Fin (k0_t2_loop i v14).trips, ∀ a, (k0_off12 i v14 k0_t2) a + S1x1x256.size a ≤ S1x1x5120.size a)
theorem k0_t1_ok : ∀ (i : grid0.Coords) (v14 : BitVec 32) (k0_hw1 : k0_chk1 i v14), (k0_t1_loop i v14).OK := fun i v14 k0_hw1 => k0_hw1.1
theorem k0_mult1_dvd : ∀ (i : grid0.Coords) (v14 : BitVec 32) (k0_hw1 : k0_chk1 i v14) (k0_t1 : Fin (k0_t1_loop i v14).trips), 256 ∣ (k0_mult1 i v14 k0_t1).toNat := fun i v14 k0_hw1 k0_t1 => k0_hw1.2.1 k0_t1
theorem k0_off2_inb : ∀ (i : grid0.Coords) (v14 : BitVec 32) (k0_hw1 : k0_chk1 i v14) (k0_t1 : Fin (k0_t1_loop i v14).trips), ∀ a, (k0_off2 i v14 k0_t1) a + S1x1x256x128.size a ≤ S1x1x5120x128.size a := fun i v14 k0_hw1 k0_t1 => k0_hw1.2.2.1 k0_t1
theorem k0_off3_inb : ∀ (i : grid0.Coords) (v14 : BitVec 32) (k0_hw1 : k0_chk1 i v14) (k0_t1 : Fin (k0_t1_loop i v14).trips), ∀ a, (k0_off3 i v14 k0_t1) a + S1x1x256.size a ≤ S1x1x5120.size a := fun i v14 k0_hw1 k0_t1 => k0_hw1.2.2.2.1 k0_t1
theorem k0_t2_ok : ∀ (i : grid0.Coords) (v14 : BitVec 32) (k0_hw1 : k0_chk1 i v14), (k0_t2_loop i v14).OK := fun i v14 k0_hw1 => k0_hw1.2.2.2.2.1
theorem k0_mult2_dvd : ∀ (i : grid0.Coords) (v14 : BitVec 32) (k0_hw1 : k0_chk1 i v14) (k0_t2 : Fin (k0_t2_loop i v14).trips), 256 ∣ (k0_mult2 i v14 k0_t2).toNat := fun i v14 k0_hw1 k0_t2 => k0_hw1.2.2.2.2.2.1 k0_t2
theorem k0_off11_inb : ∀ (i : grid0.Coords) (v14 : BitVec 32) (k0_hw1 : k0_chk1 i v14) (k0_t2 : Fin (k0_t2_loop i v14).trips), ∀ a, (k0_off11 i v14 k0_t2) a + S1x1x256x128.size a ≤ S1x1x5120x128.size a := fun i v14 k0_hw1 k0_t2 => k0_hw1.2.2.2.2.2.2.1 k0_t2
theorem k0_off12_inb : ∀ (i : grid0.Coords) (v14 : BitVec 32) (k0_hw1 : k0_chk1 i v14) (k0_t2 : Fin (k0_t2_loop i v14).trips), ∀ a, (k0_off12 i v14 k0_t2) a + S1x1x256.size a ≤ S1x1x5120.size a := fun i v14 k0_hw1 k0_t2 => k0_hw1.2.2.2.2.2.2.2 k0_t2

def k0_off13 (i : grid0.Coords) : Fin 2 → Nat :=
  let arg1 : BitVec 32 := BitVec.ofNat 32 (i 1).val
  let v131 : Index := Scalar.indexCast arg1
  let c0_81 : Index := 0#32
  ![v131.toNat, 0]
def k0_off14 (i : grid0.Coords) : Fin 2 → Nat :=
  let arg1 : BitVec 32 := BitVec.ofNat 32 (i 1).val
  let v157 : Index := Scalar.indexCast arg1
  let c1_98 : Index := 1#32
  ![v157.toNat, 1]
def k0_off15 (i : grid0.Coords) : Fin 2 → Nat :=
  let arg1 : BitVec 32 := BitVec.ofNat 32 (i 1).val
  let v183 : Index := Scalar.indexCast arg1
  let c2_115 : Index := 2#32
  ![v183.toNat, 2]
def k0_off16 (i : grid0.Coords) : Fin 2 → Nat :=
  let arg1 : BitVec 32 := BitVec.ofNat 32 (i 1).val
  let v209 : Index := Scalar.indexCast arg1
  let c3_132 : Index := 3#32
  ![v209.toNat, 3]
def k0_off17 (i : grid0.Coords) : Fin 2 → Nat :=
  let arg1 : BitVec 32 := BitVec.ofNat 32 (i 1).val
  let v235 : Index := Scalar.indexCast arg1
  let c4_149 : Index := 4#32
  ![v235.toNat, 4]
def k0_off18 (i : grid0.Coords) : Fin 2 → Nat :=
  let arg1 : BitVec 32 := BitVec.ofNat 32 (i 1).val
  let v261 : Index := Scalar.indexCast arg1
  let c5_166 : Index := 5#32
  ![v261.toNat, 5]
def k0_off19 (i : grid0.Coords) : Fin 2 → Nat :=
  let arg1 : BitVec 32 := BitVec.ofNat 32 (i 1).val
  let v287 : Index := Scalar.indexCast arg1
  let c6_183 : Index := 6#32
  ![v287.toNat, 6]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S5x40 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x7x128x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x5120x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x5120x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x5120 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128x896 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S5x5120x28x128 : Shape := ⟨4, ![5, 5120, 28, 128]⟩
abbrev S28 : Shape := ⟨1, ![28]⟩
abbrev S5x5120x4x128 : Shape := ⟨4, ![5, 5120, 4, 128]⟩
abbrev S4 : Shape := ⟨1, ![4]⟩
abbrev S4x128 : Shape := ⟨2, ![4, 128]⟩
abbrev S5x5120 : Shape := ⟨2, ![5, 5120]⟩
abbrev S_ : Shape := ⟨0, ![]⟩
abbrev S4x7 : Shape := ⟨2, ![4, 7]⟩
abbrev S4x1 : Shape := ⟨2, ![4, 1]⟩
abbrev S1x4x7x1 : Shape := ⟨4, ![1, 4, 7, 1]⟩
abbrev S5x4x7x5120 : Shape := ⟨4, ![5, 4, 7, 5120]⟩
abbrev S5x1x1x5120 : Shape := ⟨4, ![5, 1, 1, 5120]⟩
abbrev S5x1x5120 : Shape := ⟨3, ![5, 1, 5120]⟩
abbrev S5x4x5120 : Shape := ⟨3, ![5, 4, 5120]⟩
abbrev S1x4x128 : Shape := ⟨3, ![1, 4, 128]⟩
abbrev S5x4x128 : Shape := ⟨3, ![5, 4, 128]⟩
abbrev S5x28x5120x128 : Shape := ⟨4, ![5, 28, 5120, 128]⟩
abbrev S20x35840x128 : Shape := ⟨3, ![20, 35840, 128]⟩
abbrev S5x4x5120x128 : Shape := ⟨4, ![5, 4, 5120, 128]⟩
abbrev S20x5120x128 : Shape := ⟨3, ![20, 5120, 128]⟩
abbrev S20x35840x1 : Shape := ⟨3, ![20, 35840, 1]⟩
abbrev S20x1x5120 : Shape := ⟨3, ![20, 1, 5120]⟩
abbrev S20x1x128 : Shape := ⟨3, ![20, 1, 128]⟩
abbrev S1x1x1 : Shape := ⟨3, ![1, 1, 1]⟩
abbrev S5x5120x3584 : Shape := ⟨3, ![5, 5120, 3584]⟩
abbrev S20x35840x5120 : Shape := ⟨3, ![20, 35840, 5120]⟩
abbrev S20x7x5120x5120 : Shape := ⟨4, ![20, 7, 5120, 5120]⟩

abbrev nBuf : Space → Nat
  | .hbm => 35
  | .vmem => 9
  | .smem => 0
  | _ => 0

abbrev bufTy : (tb : Table) → Fin (tcTables nBuf tb) → BufTy
  | .hbm, ⟨0, _⟩ => ⟨S5x5120x28x128, .fp8e4m3⟩
  | .hbm, ⟨1, _⟩ => ⟨S28, .f32⟩
  | .hbm, ⟨2, _⟩ => ⟨S5x5120x4x128, .fp8e4m3⟩
  | .hbm, ⟨3, _⟩ => ⟨S4, .f32⟩
  | .hbm, ⟨4, _⟩ => ⟨S5x5120x4x128, .fp8e4m3⟩
  | .hbm, ⟨5, _⟩ => ⟨S4x128, .f32⟩
  | .hbm, ⟨6, _⟩ => ⟨S5x5120, .i32⟩
  | .hbm, ⟨7, _⟩ => ⟨S_, .f32⟩
  | .hbm, ⟨8, _⟩ => ⟨S4x7, .f32⟩
  | .hbm, ⟨9, _⟩ => ⟨S4x1, .f32⟩
  | .hbm, ⟨10, _⟩ => ⟨S4x7, .f32⟩
  | .hbm, ⟨11, _⟩ => ⟨S4x7, .f32⟩
  | .hbm, ⟨12, _⟩ => ⟨S_, .f32⟩
  | .hbm, ⟨13, _⟩ => ⟨S4x7, .f32⟩
  | .hbm, ⟨14, _⟩ => ⟨S4x7, .f32⟩
  | .hbm, ⟨15, _⟩ => ⟨S1x4x7x1, .f32⟩
  | .hbm, ⟨16, _⟩ => ⟨S5x4x7x5120, .f32⟩
  | .hbm, ⟨17, _⟩ => ⟨S5x1x1x5120, .i32⟩
  | .hbm, ⟨18, _⟩ => ⟨S5x4x7x5120, .i32⟩
  | .hbm, ⟨19, _⟩ => ⟨S5x1x5120, .i32⟩
  | .hbm, ⟨20, _⟩ => ⟨S5x4x5120, .i32⟩
  | .hbm, ⟨21, _⟩ => ⟨S1x4x128, .f32⟩
  | .hbm, ⟨22, _⟩ => ⟨S5x4x128, .f32⟩
  | .hbm, ⟨23, _⟩ => ⟨S5x28x5120x128, .fp8e4m3⟩
  | .hbm, ⟨24, _⟩ => ⟨S20x35840x128, .fp8e4m3⟩
  | .hbm, ⟨25, _⟩ => ⟨S5x4x5120x128, .fp8e4m3⟩
  | .hbm, ⟨26, _⟩ => ⟨S20x5120x128, .fp8e4m3⟩
  | .hbm, ⟨27, _⟩ => ⟨S5x4x5120x128, .fp8e4m3⟩
  | .hbm, ⟨28, _⟩ => ⟨S20x5120x128, .fp8e4m3⟩
  | .hbm, ⟨29, _⟩ => ⟨S20x35840x1, .f32⟩
  | .hbm, ⟨30, _⟩ => ⟨S20x35840x1, .i32⟩
  | .hbm, ⟨31, _⟩ => ⟨S20x1x5120, .i32⟩
  | .hbm, ⟨32, _⟩ => ⟨S20x1x128, .f32⟩
  | .hbm, ⟨33, _⟩ => ⟨S1x1x1, .f32⟩
  | .hbm, ⟨34, _⟩ => ⟨S5x5120x3584, .bf16⟩
  | .local _ .vmem, ⟨0, _⟩ => ⟨S20x35840x128, .fp8e4m3⟩
  | .local _ .vmem, ⟨1, _⟩ => ⟨S20x5120x128, .fp8e4m3⟩
  | .local _ .vmem, ⟨2, _⟩ => ⟨S20x5120x128, .fp8e4m3⟩
  | .local _ .vmem, ⟨3, _⟩ => ⟨S20x35840x1, .f32⟩
  | .local _ .vmem, ⟨4, _⟩ => ⟨S20x35840x1, .i32⟩
  | .local _ .vmem, ⟨5, _⟩ => ⟨S20x1x5120, .i32⟩
  | .local _ .vmem, ⟨6, _⟩ => ⟨S20x1x128, .f32⟩
  | .local _ .vmem, ⟨7, _⟩ => ⟨S1x1x1, .f32⟩
  | .local _ .vmem, ⟨8, _⟩ => ⟨S5x5120x3584, .bf16⟩
  | _, _ => ⟨S5x5120x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S20x35840x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x5120x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x5120x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x35840x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x35840x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1x5120 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x5120x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRun.lean ====
/-
  The kernel's body as one run: what each of its loops and straight parts leaves in the accumulator and in the output block,
  given the word it reads for its first key block.
-/
module

public import proofs.«01_k».proof.Proof.Gen.Kernel.Frame
public import proofs.«01_k».proof.Proof.Gen.Kernel.Loops

@[expose] public section

-- the blocks are large and a membership check recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output, through which its contents are stated; which one does not matter. -/
abbrev VO0_9 : View sig .tc .vmem S1x128x896 .bf16 := (Memref.whole cc0_stg9_0 : Memref sig .tc .vmem S1x128x896 .bf16).view
/-- Each window's current staging memref at point `t`, and that it is a whole buffer. -/
abbrev ms0_0 (t : Fin cfg0.N) : Memref sig .tc .smem S5x40 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4x7 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7x128x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x5120x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x5120x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x5120 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x896 .bf16 := win0_9.stage (cfg0.slots t 9)
abbrev hs0_9 (t : Fin cfg0.N) : (ms0_9 t).IsWhole := hstage0_9 ((cfg0.slots t 9).cast nbuf0_9)

/-! ## The side condition the body assumes -/

/-- The word of `kstart` the body reads at point `t`: row `b` and query tile `i` of the table. -/
abbrev word (c : Dev nD) (t : Fin cfg0.N) : Elt F .i32 :=
  (ms0_0 t).view.readAt (Elt F) (Rect.unit (s := S5x40) (k0_off1 (grid0.coords t)) S1x1.size (k0_off1_inb (grid0.coords t))).toLoadRect ((hs0_0 t).unread (iblk m c 0 t)) (Shape.Idx.first (numel1_S1x1.symm ▸ Nat.one_pos))

/-- The side condition the body assumes of that word, at every point: the key loop it starts stays inside the keys. -/
def Hyps (m : (ℓ : Loc nD τ sig) → Buf (Elt F) ℓ) : Prop :=
  ∀ (c : Dev nD) (t : Fin cfg0.N), k0_chk1 (grid0.coords t) (word m c t)

/-- The scratch operands: whole scoped buffers of the kernel's own, passed beside the windows. -/
abbrev scM0_0 : Memref sig .tc .vmem S7x128x128 .f32 := Memref.whole cc0_scratch0

/-- The invariant of the pipeline: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- the run's proof term is large
set_option maxHeartbeats 1000000 in
/-- What the body's stores leave in the output's staging buffer, as pieces (last first), with the proof that the body,
    on whole staging buffers holding the inputs, runs to its end with the inputs as they were and those pieces written.
    The run itself finds the pieces. -/
noncomputable def bodyRun (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) :
    { L9 : List (View.Piece (Elt F) S1x128x896 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d)) -∗ K ⟨⟩))
          ⊢ wp frame (wpE (defs₀ (F := F)) Variants.none c none) E (cc0_flash_sigmoid i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_flash_sigmoid_eq_skeleton]; unfold cc0_flash_sigmoid_skel
    simp only [k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _, _; isplitr; swap; · iexact HS0
    ipureintro; rfl

end Cert.Kernel.Hand

end
-- ==== Proof.KFrame.lean ====
/-
  The kernel's frame: the body at every grid point, the pipeline's proof data, the run, every argument unchanged and every
  counter at zero.
-/
module

public import proofs.«01_k».proof.Proof.KRun
public import Idealize.ShloMosaic.Lib.Claim

@[expose] public section

-- the blocks are large and a membership check recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven pieces tile the output block, so they cover it. -/
theorem cover9 (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) (y : S1x128x896.Idx) :
    ∃ pc ∈ (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1, y ∈ pc.1.set :=
  View.cover_of_tiledL (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1 S1x128x128.size (by sl_kernel_rfl) y

/-- What the body leaves in the output's staging buffer: its pieces read back. -/
def blockOut (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) : Vec F S1x128x896 .bf16 :=
  VO0_9.read (Elt F) (VO0_9.writes (Elt F) VO0_9.junk (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1)

/-! ## What the outputs hold after each point -/

/-- What the output's staging buffer holds after the body at point `t`. -/
def outsAt0 (hH : Hyps m) (c : Dev nD) (t : Fin cfg0.N) : Vec F S1x128x896 .bf16 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (hH c t)

/-! ## The pipeline's proof data -/

/-- The pipeline's proof data: the arrays as the region finds them; after the body at point `t` each input's buffer at
    its block and the output's at `outsAt0`. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m hH c t)
  Φ _ := Pipeline.ΦA spec0 c
  q _ := fullShare
  owed _ := 0

/-- The proof data's arrays are the contents at the region's entry. -/
theorem A_eq (hH : Hyps m) (c : Dev nD) (w : Fin cfg0.W) : (dats m hH 0 c).A w = V m c (Pipeline.arrRef spec0 w) := by
  dsimp only [dats]

/-- What the body leaves, window by window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = (outsAt0 m hH c t) := by dsimp only [dats]

/-- Each input's current staging buffer holds its block at every point, fetched there or not. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t`, the windows one by one, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t))

set_option maxHeartbeats 800000 in
/-- The body at any point. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9]
  rw [show (dats m hH 0 c).Φ t.castSucc = Pipeline.ΦA spec0 c from rfl, PhiA0_eq]
  unfold outsAt0
  unfold blockOut
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 c _ _ _ _ _ _ _ _ _ _ _ _ _ _ _ _ _ _ _ _ _ _ _ _ _ _ _ _ _ _ _ _ _)

/-- The row of the body table at point `t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- The run: every array ends as the proof data says, and every counter at zero. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- The run, without the counters. -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m hH) (A_eq m hH) (run_main m ρ hH)

/-- The frame: the run ends, every argument array as it was, every counter at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hH) ((θ_run defs _ _).mono (fun _ h => h.2) (run_main_quiescent m ρ hH))

end Cert.Kernel.Hand

end
-- ==== Proof.Words.lean ====
/-
  The words that say where a query tile's key loop runs: the floored division by 256 the kernel spells out for the
  first block, the division for the last, and the loops between them, as natural numbers.
-/
module

public import Idealize.ShloMosaic.Lib.Scf
public import Idealize.ShloMosaic.PureOps
public import Idealize.ShloMosaic.Lib.WordArith

@[expose] public section

namespace Cert.Words

open Idealize.ShloMosaic

/-- A small word is the word of its number. -/
theorem eq_ofNat (w : BitVec 32) : w = BitVec.ofNat 32 w.toNat := by simp

/-- The word `⌊w / 256⌋`, as the kernel spells the floored division. -/
def floorDiv (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 256#32 0#32)) (Scalar.extui (Scalar.cmpi .slt 256#32 0#32))))
      (Scalar.cmpi .ne (Scalar.remsi w 256#32) 0#32))
    (Scalar.subi (Scalar.divsi w 256#32) 1#32) (Scalar.divsi w 256#32)

theorem floorDiv_ofNat : ∀ n < 5121, floorDiv (BitVec.ofNat 32 n) = BitVec.ofNat 32 (n / 256) := by decide +kernel

/-- On a count of at most 5120 keys it is the quotient. -/
theorem floorDiv_eq (w : BitVec 32) (h : w.toNat ≤ 5120) : floorDiv w = BitVec.ofNat 32 (w.toNat / 256) := by
  conv_lhs => rw [eq_ofNat w]
  exact floorDiv_ofNat _ (by omega)

/-- The word one past the last key block of query tile `n`, as the kernel spells it. -/
def lastBlock (n : Nat) : BitVec 32 :=
  Scalar.divsi (Scalar.addi (Scalar.addi (Scalar.muli (BitVec.ofNat 32 n) 128#32) 128#32) 255#32) 256#32

theorem lastBlock_eq : ∀ n < 40, lastBlock n = BitVec.ofNat 32 ((n * 128 + 383) / 256) := by decide +kernel

/-- The upper bound the printed loop takes, `a + (b - a) / 1 * 1`, is `b`. -/
theorem upper (a b : BitVec 32) : Scalar.addi a (Scalar.muli (Scalar.divsi (Scalar.subi b a) 1#32) 1#32) = b := by
  have h : ∀ x : BitVec 32, Scalar.divsi x 1#32 = x := fun x => WordArith.divsi_one _ x
  rw [h]
  show a + (b - a) * 1#32 = b
  rw [BitVec.mul_one]; rw [BitVec.add_comm, BitVec.sub_add_cancel]

theorem upper' (a b : BitVec 32) : Scalar.addi a (Scalar.subi b a) = b := by
  show a + (b - a) = b
  rw [BitVec.add_comm, BitVec.sub_add_cancel]

theorem ok : ∀ a < 21, ∀ b < 21, Scf.OK (BitVec.ofNat 32 a) (BitVec.ofNat 32 b) 1#32 := by decide +kernel

theorem trips : ∀ a < 21, ∀ b < 21, Scf.trips (BitVec.ofNat 32 a) (BitVec.ofNat 32 b) 1#32 = b - a := by decide +kernel

/-- The first key of trip `k` of a loop from block `a`. -/
theorem key0 : ∀ a < 21, ∀ k < 21, (Scalar.muli (Scf.iv (BitVec.ofNat 32 a) 1#32 k) 256#32).toNat = 256 * (a + k) := by decide +kernel

end Cert.Words
-- ==== Proof.KWords.lean ====
/-
  The side condition the body assumes, from a bound on the word it reads: with at most 5120 keys before the first
  block, both key loops have a meaning and every block they load lies inside the keys.
-/
module

public import proofs.«01_k».proof.Proof.Words
public import proofs.«01_k».proof.Proof.Gen.Kernel

@[expose] public section

noncomputable section

namespace Cert.Kernel.Hand

open Idealize.ShloMosaic
open Cert.Kernel Cert.Kernel.Gen Cert.Words

/-- One past the last key block of the query tile at grid point `i`. -/
abbrev last (i : grid0.Coords) : Nat := ((i 2).val * 128 + 383) / 256

theorem i2_lt (i : grid0.Coords) : (i 2).val < 40 := (i 2).isLt

theorem last_lt (i : grid0.Coords) : last i < 21 := by have := i2_lt i; unfold last; omega

/-- The first key loop runs from block `⌊w / 256⌋` up to the tile's last block. -/
theorem t1_eq (i : grid0.Coords) (w : BitVec 32) (h : w.toNat ≤ 5120) :
    k0_t1_loop i w = ⟨BitVec.ofNat 32 (w.toNat / 256), BitVec.ofNat 32 (last i), 1#32⟩ := by
  show (⟨floorDiv w, Scalar.addi (floorDiv w) (Scalar.muli (Scalar.divsi (Scalar.subi (lastBlock (i 2).val) (floorDiv w)) 1#32) 1#32), 1#32⟩ : Scf.Loop 32) = _
  rw [upper, floorDiv_eq w h, lastBlock_eq _ (i2_lt i)]

/-- The second key loop, the rest of an unrolling by one, has no trip. -/
theorem t2_eq (i : grid0.Coords) (w : BitVec 32) (h : w.toNat ≤ 5120) :
    k0_t2_loop i w = ⟨BitVec.ofNat 32 (last i), BitVec.ofNat 32 (last i), 1#32⟩ := by
  show (⟨Scalar.addi (floorDiv w) (Scalar.muli (Scalar.divsi (Scalar.subi (lastBlock (i 2).val) (floorDiv w)) 1#32) 1#32), Scalar.addi (floorDiv w) (Scalar.subi (lastBlock (i 2).val) (floorDiv w)), 1#32⟩ : Scf.Loop 32) = _
  rw [upper, upper', lastBlock_eq _ (i2_lt i)]

theorem t1_trips (i : grid0.Coords) (w : BitVec 32) (h : w.toNat ≤ 5120) :
    (k0_t1_loop i w).trips = last i - w.toNat / 256 := by
  rw [t1_eq i w h]; exact trips _ (by omega) _ (last_lt i)

theorem t2_trips (i : grid0.Coords) (w : BitVec 32) (h : w.toNat ≤ 5120) : (k0_t2_loop i w).trips = 0 := by
  rw [t2_eq i w h]; exact (trips _ (last_lt i) _ (last_lt i)).trans (Nat.sub_self _)

/-- The first key of trip `k`. -/
theorem mult1_eq (i : grid0.Coords) (w : BitVec 32) (h : w.toNat ≤ 5120) (k : Fin (k0_t1_loop i w).trips) :
    (k0_mult1 i w k).toNat = 256 * (w.toNat / 256 + k.val) := by
  have hk := k.isLt.trans_eq (t1_trips i w h)
  have := last_lt i
  show (Scalar.muli (Scf.iv (floorDiv w) 1#32 k.val) 256#32).toNat = _
  rw [floorDiv_eq w h]; exact key0 _ (by omega) _ (by omega)

theorem off2_eq (i : grid0.Coords) (w : BitVec 32) (h : w.toNat ≤ 5120) (k : Fin (k0_t1_loop i w).trips) :
    k0_off2 i w k = ![0, 0, 256 * (w.toNat / 256 + k.val), 0] := by
  rw [← mult1_eq i w h k]; rfl

theorem off3_eq (i : grid0.Coords) (w : BitVec 32) (h : w.toNat ≤ 5120) (k : Fin (k0_t1_loop i w).trips) :
    k0_off3 i w k = ![0, 0, 256 * (w.toNat / 256 + k.val)] := by
  rw [← mult1_eq i w h k]; rfl

theorem block_lt (i : grid0.Coords) (w : BitVec 32) (h : w.toNat ≤ 5120) (k : Fin (k0_t1_loop i w).trips) :
    w.toNat / 256 + k.val < last i := by
  have hk := k.isLt.trans_eq (t1_trips i w h)
  omega

/-- The side condition holds of every word of at most 5120. -/
theorem chk1_of (i : grid0.Coords) (w : BitVec 32) (h : w.toNat ≤ 5120) : k0_chk1 i w := by
  have hl := last_lt i
  have h0 : ∀ k : Fin (k0_t2_loop i w).trips, False := fun k =>
    absurd (k.isLt.trans_eq (t2_trips i w h)) (Nat.not_lt_zero _)
  refine ⟨?_, fun k => ?_, fun k => ?_, fun k => ?_, ?_, fun k => (h0 k).elim, fun k => (h0 k).elim, fun k => (h0 k).elim⟩
  · rw [t1_eq i w h]; exact ok _ (by omega) _ hl
  · rw [mult1_eq i w h k]; exact Dvd.intro _ rfl
  · have hb := block_lt i w h k
    rw [off2_eq i w h k]
    intro a; fin_cases a
    · exact Nat.le_refl _
    · exact Nat.le_refl _
    · show 256 * (w.toNat / 256 + k.val) + 256 ≤ 5120; omega
    · exact Nat.le_refl _
  · have hb := block_lt i w h k
    rw [off3_eq i w h k]
    intro a; fin_cases a
    · exact Nat.le_refl _
    · exact Nat.le_refl _
    · show 256 * (w.toNat / 256 + k.val) + 256 ≤ 5120; omega
  · rw [t2_eq i w h]; exact ok _ hl _ hl

end Cert.Kernel.Hand

end
-- ==== Proof.KHost.lean ====
/-
  The array of first keys the host computes: the number of keys with an id below that of a tile's first query, so at most
  the number of keys, which meets the body's side condition.
-/
module

public import proofs.«01_k».proof.Proof.KRun
public import proofs.«01_k».proof.Proof.KWords
public import Idealize.ShloMosaic.Lib.IndicatorCount
public import Idealize.ShloMosaic.Lib.Pointwise
public import Idealize.ShloMosaic.Lib.Pipeline.ValueKit

@[expose] public section

set_option maxRecDepth 16384

noncomputable section

namespace Cert.Kernel.Hand

open Idealize.ShloMosaic Idealize.ShloMosaic.TcCoe Idealize.ShloMosaic.Tactic
open Cert.Kernel Cert.Kernel.Gen

variable {F : FTy → Type} [FloatOps F]
variable (m : (ℓ : Loc nD τ sig) → Buf (Elt F) ℓ)

/-- How many keys of batch row `b` have a segment id below that of the first query of tile `i`. -/
def startCount (ids : S5x5120.Idx → BitVec 32) (b : Fin 5) (i : Fin 40) : ℕ :=
  (Finset.univ.filter fun k : Fin 5120 =>
    IntOp.cmpi .slt (ids (ix2 b k)) (ids (ix2 b ⟨128 * i.val, by omega⟩)) = 1#1).card

theorem startCount_le (ids : S5x5120.Idx → BitVec 32) (b : Fin 5) (i : Fin 40) : startCount ids b i ≤ 5120 :=
  (Finset.card_filter_le _ _).trans (by simp)

theorem reduces_keys : S5x40x5120.Reduces [2] S5x40 := by decide

/-- The array of first keys as the host computes it. -/
theorem V_main_v16_eq (c : Dev nD) : (V m c main_v16 : S5x40.Idx → BitVec 32) =
      Host.reduce IntOp.addi (extui 32 (cmpi .slt
        (broadcastInDim S5x40x5120 ![0, 1, 2] bcast_S5x1x5120_S5x40x5120_0_1_2 (broadcastInDim S5x1x5120 ![0, 2] bcast_S5x5120_S5x1x5120_0_2 (V m c main_arg6 : S5x5120.Idx → BitVec 32)))
        (broadcastInDim S5x40x5120 ![0, 1, 2] bcast_S5x40x1_S5x40x5120_0_1_2 (broadcastInDim S5x40x1 ![0, 1] bcast_S5x40_S5x40x1_0_1
          (Host.slice S5x40 ![0, 0] ![1, 128] (V m c main_arg6 : S5x5120.Idx → BitVec 32) slicesBy_S5x5120_S5x40_0s1_0s128)))) natLt_1_32)
        (constantI S_ 32 0#32) reducesTo_S5x40x5120_S5x40_d2 h_S_ := by
  dsimp only [V, hostOps0]
  after_results
  all_goals rfl

/-- A sum of indicators along the keys is a count. -/
theorem reduce_keys (p : S5x40x5120.Idx → BitVec 1) (b : Fin 5) (i : Fin 40) :
    Host.reduce IntOp.addi (extui 32 p natLt_1_32) (constantI S_ 32 0#32) reducesTo_S5x40x5120_S5x40_d2 h_S_ (ix2 b i)
      = BitVec.ofNat 32 ((Finset.univ : Finset (Fin 5120)).filter fun k => p (ix3 b i k) = 1#1).card := by
  have hl : ∀ k : Fin 5120, reduces_keys.lift (ix2 b i) k = ix3 b i k := fun k => by
    funext a; fin_cases a <;> rfl
  refine (Host.reduce_eq_fold_single IntOp.addi (extui 32 p natLt_1_32) (constantI S_ 32 0#32) reducesTo_S5x40x5120_S5x40_d2 reduces_keys h_S_ (ix2 b i)).trans ?_
  refine Eq.trans ?_ (IndicatorCount.fold_addi_setWidth_eq_card (fun k : Fin 5120 => p (ix3 b i k)) Finset.univ)
  refine Finset.fold_congr fun k _ => ?_
  exact congrArg (fun y => (p y).setWidth 32) (hl k)

/-- The array of first keys is the array of those counts. -/
theorem V_main_v16 (c : Dev nD) (b : Fin 5) (i : Fin 40) :
    (V m c main_v16 : S5x40.Idx → BitVec 32) (ix2 b i) = BitVec.ofNat 32 (startCount (V m c main_arg6) b i) := by
  refine (congrFun (V_main_v16_eq m c) (ix2 b i)).trans ((reduce_keys _ b i).trans ?_)
  unfold startCount
  refine congrArg (fun S : Finset (Fin 5120) => BitVec.ofNat 32 S.card) (Finset.filter_congr fun k _ => ?_)
  pointwise

/-- A grid coordinate's word is the coordinate. -/
theorem word_toNat (n : ℕ) (h : n < 5120) : (BitVec.ofNat 32 n).toNat = n := by
  rw [BitVec.toNat_ofNat]; exact Nat.mod_eq_of_lt (by omega)

theorem w0 (t : Fin cfg0.N) : (BitVec.ofNat 32 (grid0.coords t 0).val).toNat = (grid0.coords t 0).val :=
  word_toNat _ (lt_of_lt_of_le (grid0.coords t 0).isLt (by decide))
theorem w1 (t : Fin cfg0.N) : (BitVec.ofNat 32 (grid0.coords t 1).val).toNat = (grid0.coords t 1).val :=
  word_toNat _ (lt_of_lt_of_le (grid0.coords t 1).isLt (by decide))
theorem w2 (t : Fin cfg0.N) : (BitVec.ofNat 32 (grid0.coords t 2).val).toNat = (grid0.coords t 2).val :=
  word_toNat _ (lt_of_lt_of_le (grid0.coords t 2).isLt (by decide))

theorem iblk0 (c : Dev nD) (t : Fin cfg0.N) (b : Fin 5) (i : Fin 40) :
    (iblk m c 0 t : S5x40.Idx → BitVec 32) (ix2 b i) = (V m c main_v16 : S5x40.Idx → BitVec 32) (ix2 b i) := by
  unfold iblk
  refine (View.read_apply _ _).trans ((cast_eq _ _).trans (congrArg (V m c main_v16) ?_))
  funext a; apply Fin.ext
  refine Pipeline.Window.rect_emb_val_of_index_zero win0_0 t a ?_ (ix2 b i)
  fin_cases a <;> rfl

/-- The word a grid point reads is the count of its batch row and tile. -/
theorem word_eq (c : Dev nD) (t : Fin cfg0.N) (b : Fin 5) (hb : b.val = (grid0.coords t 0).val) (i : Fin 40) (hi : i.val = (grid0.coords t 2).val) :
    word m c t = BitVec.ofNat 32 (startCount (V m c main_arg6) b i) := by
  have e : word m c t = (iblk m c 0 t : S5x40.Idx → BitVec 32) (ix2 b i) := by
    unfold word
    rw [View.readAt_apply, Memref.IsWhole.read_unread]
    refine congrArg (iblk m c 0 t) ?_
    funext a; apply Fin.ext
    rw [Rect.idx_unit_val]
    refine (congrArg (· + _) (congrFun (k0_off1_eq _) a)).trans ?_
    fin_cases a
    · show (grid0.coords t 0).val + 0 = b.val; omega
    · show (grid0.coords t 2).val + 0 = i.val; omega
  rw [e, iblk0, V_main_v16]

theorem word_le (c : Dev nD) (t : Fin cfg0.N) : (word m c t).toNat ≤ 5120 := by
  rw [word_eq m c t (grid0.coords t 0) rfl (grid0.coords t 2) rfl, BitVec.toNat_ofNat]
  exact (Nat.mod_le _ _).trans (startCount_le _ _ _)

/-- So the launch meets the body's side condition at every point. -/
theorem hyps : Hyps m := fun c t => chk1_of _ _ (word_le m c t)

end Cert.Kernel.Hand
end
-- ==== Proof.KIWords.lean ====
/-
  The side condition the body assumes, from a bound on the word it reads: with at most 5120 keys before the first
  block, both key loops have a meaning and every block they load lies inside the keys.
-/
module

public import proofs.«01_k».proof.Proof.Words
public import proofs.«01_k».proof.Proof.Gen.KernelIdeal

@[expose] public section

noncomputable section

namespace Cert.KernelIdeal.Hand

open Idealize.ShloMosaic
open Cert.KernelIdeal Cert.KernelIdeal.Gen Cert.Words

/-- One past the last key block of the query tile at grid point `i`. -/
abbrev last (i : grid0.Coords) : Nat := ((i 2).val * 128 + 383) / 256

theorem i2_lt (i : grid0.Coords) : (i 2).val < 40 := (i 2).isLt

theorem last_lt (i : grid0.Coords) : last i < 21 := by have := i2_lt i; unfold last; omega

/-- The first key loop runs from block `⌊w / 256⌋` up to the tile's last block. -/
theorem t1_eq (i : grid0.Coords) (w : BitVec 32) (h : w.toNat ≤ 5120) :
    k0_t1_loop i w = ⟨BitVec.ofNat 32 (w.toNat / 256), BitVec.ofNat 32 (last i), 1#32⟩ := by
  show (⟨floorDiv w, Scalar.addi (floorDiv w) (Scalar.muli (Scalar.divsi (Scalar.subi (lastBlock (i 2).val) (floorDiv w)) 1#32) 1#32), 1#32⟩ : Scf.Loop 32) = _
  rw [upper, floorDiv_eq w h, lastBlock_eq _ (i2_lt i)]

/-- The second key loop, the rest of an unrolling by one, has no trip. -/
theorem t2_eq (i : grid0.Coords) (w : BitVec 32) (h : w.toNat ≤ 5120) :
    k0_t2_loop i w = ⟨BitVec.ofNat 32 (last i), BitVec.ofNat 32 (last i), 1#32⟩ := by
  show (⟨Scalar.addi (floorDiv w) (Scalar.muli (Scalar.divsi (Scalar.subi (lastBlock (i 2).val) (floorDiv w)) 1#32) 1#32), Scalar.addi (floorDiv w) (Scalar.subi (lastBlock (i 2).val) (floorDiv w)), 1#32⟩ : Scf.Loop 32) = _
  rw [upper, upper', lastBlock_eq _ (i2_lt i)]

theorem t1_trips (i : grid0.Coords) (w : BitVec 32) (h : w.toNat ≤ 5120) :
    (k0_t1_loop i w).trips = last i - w.toNat / 256 := by
  rw [t1_eq i w h]; exact trips _ (by omega) _ (last_lt i)

theorem t2_trips (i : grid0.Coords) (w : BitVec 32) (h : w.toNat ≤ 5120) : (k0_t2_loop i w).trips = 0 := by
  rw [t2_eq i w h]; exact (trips _ (last_lt i) _ (last_lt i)).trans (Nat.sub_self _)

/-- The first key of trip `k`. -/
theorem mult1_eq (i : grid0.Coords) (w : BitVec 32) (h : w.toNat ≤ 5120) (k : Fin (k0_t1_loop i w).trips) :
    (k0_mult1 i w k).toNat = 256 * (w.toNat / 256 + k.val) := by
  have hk := k.isLt.trans_eq (t1_trips i w h)
  have := last_lt i
  show (Scalar.muli (Scf.iv (floorDiv w) 1#32 k.val) 256#32).toNat = _
  rw [floorDiv_eq w h]; exact key0 _ (by omega) _ (by omega)

theorem off2_eq (i : grid0.Coords) (w : BitVec 32) (h : w.toNat ≤ 5120) (k : Fin (k0_t1_loop i w).trips) :
    k0_off2 i w k = ![0, 0, 256 * (w.toNat / 256 + k.val), 0] := by
  rw [← mult1_eq i w h k]; rfl

theorem off3_eq (i : grid0.Coords) (w : BitVec 32) (h : w.toNat ≤ 5120) (k : Fin (k0_t1_loop i w).trips) :
    k0_off3 i w k = ![0, 0, 256 * (w.toNat / 256 + k.val)] := by
  rw [← mult1_eq i w h k]; rfl

theorem block_lt (i : grid0.Coords) (w : BitVec 32) (h : w.toNat ≤ 5120) (k : Fin (k0_t1_loop i w).trips) :
    w.toNat / 256 + k.val < last i := by
  have hk := k.isLt.trans_eq (t1_trips i w h)
  omega

/-- The side condition holds of every word of at most 5120. -/
theorem chk1_of (i : grid0.Coords) (w : BitVec 32) (h : w.toNat ≤ 5120) : k0_chk1 i w := by
  have hl := last_lt i
  have h0 : ∀ k : Fin (k0_t2_loop i w).trips, False := fun k =>
    absurd (k.isLt.trans_eq (t2_trips i w h)) (Nat.not_lt_zero _)
  refine ⟨?_, fun k => ?_, fun k => ?_, fun k => ?_, ?_, fun k => (h0 k).elim, fun k => (h0 k).elim, fun k => (h0 k).elim⟩
  · rw [t1_eq i w h]; exact ok _ (by omega) _ hl
  · rw [mult1_eq i w h k]; exact Dvd.intro _ rfl
  · have hb := block_lt i w h k
    rw [off2_eq i w h k]
    intro a; fin_cases a
    · exact Nat.le_refl _
    · exact Nat.le_refl _
    · show 256 * (w.toNat / 256 + k.val) + 256 ≤ 5120; omega
    · exact Nat.le_refl _
  · have hb := block_lt i w h k
    rw [off3_eq i w h k]
    intro a; fin_cases a
    · exact Nat.le_refl _
    · exact Nat.le_refl _
    · show 256 * (w.toNat / 256 + k.val) + 256 ≤ 5120; omega
  · rw [t2_eq i w h]; exact ok _ hl _ hl

end Cert.KernelIdeal.Hand

end
-- ==== Proof.Spec.lean ====
/-
  The mathematics both programs compute, on single numbers: the code a probability is stored as, what one key adds to
  a query's output, and the output as a sum over all keys.
-/
module

public import Idealize.ShloMosaic.PureOps.Ideal
public import Idealize.ShloMosaic.Lib.Pointwise
public import Idealize.ShloMosaic.Lib.IdealHost

@[expose] public section

noncomputable section

namespace Cert.Spec

open Idealize.ShloMosaic

/-- The stored code of a probability: the logistic of the scaled score plus the bias, or zero where the key is hidden,
    divided by the probabilities' scale (`inv` is its inverse) and clipped to the format's range. -/
def code (s qk inv : EReal) (vis : BitVec 1) : EReal :=
  min (Ideal.ofBits .f32 0x43E00000#32)
    (max 0 (Scalar.select vis (Ideal.logistic (s * qk + Ideal.ofBits .f32 0xC108A791#32)) 0 * inv))

/-- The top of the range is not negative. -/
theorem top_nonneg : (0 : EReal) ≤ Ideal.ofBits .f32 0x43E00000#32 := by
  have e : Ideal.ofBits .f32 0x43E00000#32 = ((448 : ℝ) : EReal) := by
    simp [Ideal.ofBits, Ideal.ieee, -EReal.coe_mul]; norm_num
  rw [e]
  exact EReal.coe_nonneg.mpr (by norm_num)

/-- A hidden key's code is zero. -/
theorem code_hidden (s qk inv : EReal) : code s qk inv 0#1 = 0 := by
  unfold code
  rw [show Scalar.select (0#1) (Ideal.logistic (s * qk + Ideal.ofBits .f32 0xC108A791#32)) (0 : EReal) = 0 from rfl, zero_mul, max_self]
  exact min_eq_right top_nonneg

/-- The arguments: query, key and value codes, the scales of the query heads, key heads, values and probabilities, and
    the segment ids. -/
structure Args where
  q : (⟨4, ![5, 5120, 28, 128]⟩ : Shape).Idx → EReal
  qs : (⟨1, ![28]⟩ : Shape).Idx → EReal
  k : (⟨4, ![5, 5120, 4, 128]⟩ : Shape).Idx → EReal
  ks : (⟨1, ![4]⟩ : Shape).Idx → EReal
  v : (⟨4, ![5, 5120, 4, 128]⟩ : Shape).Idx → EReal
  vs : (⟨2, ![4, 128]⟩ : Shape).Idx → EReal
  seg : (⟨2, ![5, 5120]⟩ : Shape).Idx → BitVec 32
  ps : (⟨0, ![]⟩ : Shape).Idx → EReal

/-- Key `j` is visible to query `t`: it does not come later, and it has the same segment id. -/
def visible (A : Args) (b : Fin 5) (t j : Fin 5120) : BitVec 1 :=
  IntOp.andi (IntOp.cmpi .sle (BitVec.ofNat 32 j.val) (BitVec.ofNat 32 t.val)) (IntOp.cmpi .eq (A.seg (ix2 b j)) (A.seg (ix2 b t)))

/-- What key `j` adds to lane `d` of query `t` of head `h`, which reads key head `g`. -/
def term (A : Args) (b : Fin 5) (t : Fin 5120) (h : Fin 28) (g : Fin 4) (d : Fin 128) (j : Fin 5120) : EReal :=
  code (∑ e : Fin 128, A.q (ix4 b t h e) * A.k (ix4 b j g e))
      (A.qs (ix1 h) * A.ks (ix1 g) * Ideal.ofBits .f32 0x3DB504F3#32) (Ideal.div 1 (A.ps ix0)) (visible A b t j)
    * A.v (ix4 b j g d)

/-- Lane `d` of query `t` of head `h`: the sum over every key, scaled. -/
def out (A : Args) (b : Fin 5) (t : Fin 5120) (h : Fin 28) (g : Fin 4) (d : Fin 128) : EReal :=
  (∑ j : Fin 5120, term A b t h g d j) * (A.ps ix0 * A.vs (ix2 g d))

/-- The head of lane `c` of the result, its key head, and the lane in the head. -/
def head (c : Fin 3584) : Fin 28 := ⟨c.val / 128, by omega⟩
def kvHead (c : Fin 3584) : Fin 4 := ⟨c.val / 128 / 7, by omega⟩
def lane (c : Fin 3584) : Fin 128 := ⟨c.val % 128, by omega⟩

end Cert.Spec
end
-- ==== Proof.KIHead.lean ====
/-
  What one key block adds to one head's accumulator, at an index: the sum over the block's keys of code times value.
-/
module

public import proofs.«01_k».proof.Proof.KIWords
public import proofs.«01_k».proof.Proof.Spec
public import proofs.«01_k».proof.Proof.Gen.KernelIdeal.Loops
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Spec

/-- A head's update at an index. -/
theorem pay8_apply (inv : EReal) (K V : FVec Ideal S256x128 .fp8e4m3) (vis : IVec S128x256 1) (q : FVec Ideal S1x1x128x128 .fp8e4m3) (qk : EReal)
    (acc : FVec Ideal S1x128x128 .f32) (p d : Fin 128) :
    k0_pay8 (F := Ideal) inv K V vis q qk acc (ix3 0 p d) =
      acc (ix3 0 p d) + ∑ j : Fin 256, code (∑ e : Fin 128, q (ix4 0 0 p e) * K (ix2 j e)) qk inv (vis (ix2 p j)) * V (ix2 j d) := by
  unfold_payloads
  unfold code
  pointwise

theorem pay3_apply (k : FVec Ideal S1x1x256x128 .fp8e4m3) (j : Fin 256) (e : Fin 128) :
    k0_pay3 (F := Ideal) k (ix2 j e) = k (ix4 0 0 j e) := by
  unfold_payloads
  pointwise

theorem pay4_apply (k : FVec Ideal S1x1x256x128 .fp8e4m3) (j : Fin 256) (e : Fin 128) :
    k0_pay4 (F := Ideal) k (ix2 j e) = k (ix4 0 0 j e) := by
  unfold_payloads
  pointwise

theorem pay33_apply (i : grid0.Coords) (p : Fin 128) (j : Fin 256) :
    k0_pay33 i (ix2 p j) = BitVec.ofNat 32 (128 * (i 2).val + p.val) := by
  have hi := i2_lt i
  have e : k0_pay33 i (ix2 p j) = BitVec.ofNat 32 (i 2).val * 128#32 + BitVec.ofNat 32 p.val := by
    unfold_payloads
    pointwise
    rfl
  refine e.trans ?_
  apply BitVec.eq_of_toNat_eq
  simp only [BitVec.toNat_add, BitVec.toNat_mul, BitVec.toNat_ofNat]
  omega

/-- A mask at an index, the block's first key a word. -/
theorem mask_apply (kb : BitVec 32) (v : IVec S128x256 32) (sq : IVec S1x128x1 32) (sk : IVec S1x1x256 32) (p : Fin 128) (j : Fin 256) :
    andi (cmpi .sle (addi (iota .tc S128x256 32 [1] iota_S128x256_d1_w32) (broadcast S128x256 kb)) v)
      (cmpi .eq (broadcastTo S128x256 (shapeCast S1x256 sk shapeCasts_S1x1x256_S1x256) broadcasts_S1x256_S128x256)
        (broadcastTo S128x256 (shapeCast S128x1 sq shapeCasts_S1x128x1_S128x1) broadcasts_S128x1_S128x256)) (ix2 p j) =
      IntOp.andi (IntOp.cmpi .sle (BitVec.ofNat 32 j.val + kb) (v (ix2 p j))) (IntOp.cmpi .eq (sk (ix3 0 0 j)) (sq (ix3 0 p 0))) := by
  pointwise
  rfl

/-- The mask of trip `k`: the key at position `256 * (w / 256 + k) + j` against query `128 * i + p` of the tile. -/
theorem pay5_apply (i : grid0.Coords) (w : BitVec 32) (hw : w.toNat ≤ 5120) (k : Fin (k0_t1_loop i w).trips) (sq : IVec S1x128x1 32)
    (sk : IVec S1x1x256 32) (p : Fin 128) (j : Fin 256) :
    k0_pay5 (F := Ideal) i (k0_pay32 (F := Ideal) sq) (k0_pay33 i) (iota .tc S128x256 32 [1] iota_S128x256_d1_w32) w (Cert.Words.floorDiv w) 1#32 k sk (ix2 p j) =
      IntOp.andi (IntOp.cmpi .sle (BitVec.ofNat 32 (256 * (w.toNat / 256 + k.val) + j.val)) (BitVec.ofNat 32 (128 * (i 2).val + p.val)))
        (IntOp.cmpi .eq (sk (ix3 0 0 j)) (sq (ix3 0 p 0))) := by
  unfold k0_pay5 k0_pay32
  refine (mask_apply (Scalar.muli (Scf.iv (Cert.Words.floorDiv w) 1#32 k.val) 256#32) (k0_pay33 i) sq sk p j).trans ?_
  have h1 : (Scalar.muli (Scf.iv (Cert.Words.floorDiv w) 1#32 k.val) 256#32).toNat = 256 * (w.toNat / 256 + k.val) := mult1_eq i w hw k
  generalize Scalar.muli (Scf.iv (Cert.Words.floorDiv w) 1#32 k.val) 256#32 = kb at h1 ⊢
  have em : BitVec.ofNat 32 j.val + kb = BitVec.ofNat 32 (256 * (w.toNat / 256 + k.val) + j.val) := by
    apply BitVec.eq_of_toNat_eq
    simp only [BitVec.toNat_add, BitVec.toNat_ofNat, h1]
    omega
  rw [em, pay33_apply]

end Cert.KernelIdeal.Hand
end
-- ==== Proof.KIRun.lean ====
/-
  The ideal kernel's body as one run: what each of its loops and straight parts leaves in the accumulator and in the output
  block, given the word it reads for its first key block.
-/
module

public import proofs.«01_k».proof.Proof.Gen.KernelIdeal.Frame
public import proofs.«01_k».proof.Proof.Gen.KernelIdeal.Loops

@[expose] public section

-- the blocks are large and a membership check recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output, through which its contents are stated; which one does not matter. -/
abbrev VO0_9 : View sig .tc .vmem S1x128x896 .bf16 := (Memref.whole cc0_stg9_0 : Memref sig .tc .vmem S1x128x896 .bf16).view
/-- Each window's current staging memref at point `t`, and that it is a whole buffer. -/
abbrev ms0_0 (t : Fin cfg0.N) : Memref sig .tc .smem S5x40 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4x7 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7x128x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x5120x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x5120x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x5120 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x896 .bf16 := win0_9.stage (cfg0.slots t 9)
abbrev hs0_9 (t : Fin cfg0.N) : (ms0_9 t).IsWhole := hstage0_9 ((cfg0.slots t 9).cast nbuf0_9)

/-! ## The side condition the body assumes -/

/-- The word of `kstart` the body reads at point `t`: row `b` and query tile `i` of the table. -/
abbrev word (c : Dev nD) (t : Fin cfg0.N) : Elt F .i32 :=
  (ms0_0 t).view.readAt (Elt F) (Rect.unit (s := S5x40) (k0_off1 (grid0.coords t)) S1x1.size (k0_off1_inb (grid0.coords t))).toLoadRect ((hs0_0 t).unread (iblk m c 0 t)) (Shape.Idx.first (numel1_S1x1.symm ▸ Nat.one_pos))

/-- The side condition the body assumes of that word, at every point: the key loop it starts stays inside the keys. -/
def Hyps (m : (ℓ : Loc nD τ sig) → Buf (Elt F) ℓ) : Prop :=
  ∀ (c : Dev nD) (t : Fin cfg0.N), k0_chk1 (grid0.coords t) (word m c t)

/-- The scratch operands: whole scoped buffers of the kernel's own, passed beside the windows. -/
abbrev scM0_0 : Memref sig .tc .vmem S7x128x128 .f32 := Memref.whole cc0_scratch0

/-- The invariant of the pipeline: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- the run's proof term is large
set_option maxHeartbeats 1000000 in
/-- What the body's stores leave in the output's staging buffer, as pieces (last first), with the proof that the body,
    on whole staging buffers holding the inputs, runs to its end with the inputs as they were and those pieces written.
    The run itself finds the pieces. -/
noncomputable def bodyRun (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) :
    { L9 : List (View.Piece (Elt F) S1x128x896 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ d, owns (c : Thread nD τ) arg13 fullShare d)) -∗ K ⟨⟩))
          ⊢ wp frame (wpE (defs₀ (F := F)) Variants.none c none) E (cc0_flash_sigmoid i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_flash_sigmoid_eq_skeleton]; unfold cc0_flash_sigmoid_skel
    simp only [k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _, _; isplitr; swap; · iexact HS0
    ipureintro; rfl

end Cert.KernelIdeal.Hand

end
-- ==== Proof.KITrip.lean ====
/-
  One trip of the key loop on the accumulator, and the whole loop: every head's accumulator gains the sum, over the keys
  of the blocks gone through, of code times value.
-/
module

public import proofs.«01_k».proof.Proof.KIHead
public import proofs.«01_k».proof.Proof.KIRun

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Spec

/-- A load of a whole buffer's contents through a unit rectangle reads them at the index the rectangle places. -/
theorem readAt_unread {κ : Kind} {sp : Space} {s : Shape} {e : EltTy} {m : Memref sig κ sp s e} (h : m.IsWhole) (X : s.Idx → Elt Ideal e) (off size : Fin s.rank → Nat)
    (inb : ∀ a, off a + size a ≤ s.size a) (x : (Rect.unit off size inb).shape.Idx) (y : s.Idx) (hy : ∀ a, off a + (x a).val = (y a).val) :
    m.view.readAt (Elt Ideal) (Rect.unit off size inb).toLoadRect (h.unread X) x = X y := by
  rw [View.readAt_apply, Memref.IsWhole.read_unread]
  exact congrArg X (funext fun a => Fin.ext ((Rect.idx_unit_val off size inb x a).trans (hy a)))

/-- A load through a unit rectangle reads what the buffer holds at the index the rectangle places. -/
theorem readAt_read {κ : Kind} {sp : Space} {s : Shape} {e : EltTy} (v : View sig κ sp s e) (f : v.ty.Contents (Elt Ideal)) (off size : Fin s.rank → Nat)
    (inb : ∀ a, off a + size a ≤ s.size a) (x : (Rect.unit off size inb).shape.Idx) (y : s.Idx) (hy : ∀ a, off a + (x a).val = (y a).val) :
    v.readAt (Elt Ideal) (Rect.unit off size inb).toLoadRect f x = v.read (Elt Ideal) f y := by
  rw [View.readAt_apply]
  exact congrArg _ (funext fun a => Fin.ext ((Rect.idx_unit_val off size inb x a).trans (hy a)))

/-- Key head of a grid point. -/
abbrev gOf (i : grid0.Coords) : Fin 4 := ⟨(i 1).val, (i 1).isLt⟩

/-- What the key at position `j` adds to lane `d` of query `p` of head `r` of a tile. -/
def keyTerm (i : grid0.Coords) (inv : EReal) (x1 : FVec Ideal S4x7 .f32) (x3 : FVec Ideal S1x7x128x128 .fp8e4m3) (x4 x5 : FVec Ideal S1x1x5120x128 .fp8e4m3)
    (x6 : IVec S1x128x128 32) (x7 : IVec S1x1x5120 32) (r : Fin 7) (p d : Fin 128) (j : Nat) : EReal :=
  if h : j < 5120 then
    code (∑ e : Fin 128, x3 (ix4 0 r p e) * x4 (ix4 0 0 ⟨j, h⟩ e)) (x1 (ix2 (gOf i) r)) inv
      (IntOp.andi (IntOp.cmpi .sle (BitVec.ofNat 32 j) (BitVec.ofNat 32 (128 * (i 2).val + p.val)))
        (IntOp.cmpi .eq (x7 (ix3 0 0 ⟨j, h⟩)) (x6 (ix3 0 p 0)))) * x5 (ix4 0 0 ⟨j, h⟩ d)
  else 0

/-- The keys of a trip are keys of the array. -/
theorem key_lt (i : grid0.Coords) (w : BitVec 32) (hw : w.toNat ≤ 5120) (k : Fin (k0_t1_loop i w).trips) (j : Fin 256) :
    256 * (w.toNat / 256 + k.val) + j.val < 5120 := by
  have hk := k.isLt.trans_eq (t1_trips i w hw)
  have := last_lt i
  have := j.isLt
  omega

/-- One head's update in a trip, at an index: whichever head, the same sum. -/
theorem piece_apply (i : grid0.Coords) (inv : EReal) (w : BitVec 32) (hw : w.toNat ≤ 5120) (k : Fin (k0_t1_loop i w).trips)
    {arg6 : Memref sig .tc .vmem S1x7x128x128 .fp8e4m3} (harg6 : arg6.IsWhole) {arg7 : Memref sig .tc .vmem S1x1x5120x128 .fp8e4m3} (harg7 : arg7.IsWhole)
    {arg8 : Memref sig .tc .vmem S1x1x5120x128 .fp8e4m3} (harg8 : arg8.IsWhole) {arg9 : Memref sig .tc .vmem S1x128x128 .i32} (harg9 : arg9.IsWhole)
    {arg10 : Memref sig .tc .vmem S1x1x5120 .i32} (harg10 : arg10.IsWhole) (arg13 : Memref sig .tc .vmem S7x128x128 .f32)
    (x1 : FVec Ideal S4x7 .f32) (x3 : FVec Ideal S1x7x128x128 .fp8e4m3) (x4 x5 : FVec Ideal S1x1x5120x128 .fp8e4m3) (x6 : IVec S1x128x128 32) (x7 : IVec S1x1x5120 32)
    (f : BufTy.Contents (Elt Ideal) arg13.view.ty) (r : Fin 7) (qk : EReal) (hq : qk = x1 (ix2 (gOf i) r))
    (o7 o8 : Fin 4 → Nat) (ho7 : o7 = k0_off2 i w k) (ho8 : o8 = k0_off2 i w k) (o10 : Fin 3 → Nat) (ho10 : o10 = k0_off3 i w k)
    (b6 : ∀ a, (![0, r.val, 0, 0] : Fin 4 → Nat) a + S1x1x128x128.size a ≤ S1x7x128x128.size a)
    (b13 : ∀ a, (![r.val, 0, 0] : Fin 3 → Nat) a + S1x128x128.size a ≤ S7x128x128.size a)
    (b7 : ∀ a, o7 a + S1x1x256x128.size a ≤ S1x1x5120x128.size a) (b8 : ∀ a, o8 a + S1x1x256x128.size a ≤ S1x1x5120x128.size a)
    (b9 : ∀ a, (![0, 0, 0] : Fin 3 → Nat) a + S1x128x1.size a ≤ S1x128x128.size a)
    (b10 : ∀ a, o10 a + S1x1x256.size a ≤ S1x1x5120.size a) (x : S1x128x128.Idx) :
    k0_pay8 (F := Ideal) inv (k0_pay3 (arg7.view.readAt (Elt Ideal) (Rect.unit (s := S1x1x5120x128) o7 S1x1x256x128.size b7).toLoadRect (harg7.unread x4)))
      (k0_pay4 (arg8.view.readAt (Elt Ideal) (Rect.unit (s := S1x1x5120x128) o8 S1x1x256x128.size b8).toLoadRect (harg8.unread x5)))
      (k0_pay5 (F := Ideal) i (k0_pay32 (F := Ideal) (arg9.view.readAt (Elt Ideal) (Rect.unit (s := S1x128x128) ![0, 0, 0] S1x128x1.size b9).toLoadRect (harg9.unread x6)))
        (k0_pay33 i) (iota .tc S128x256 32 [1] iota_S128x256_d1_w32) w (Cert.Words.floorDiv w) 1#32 k
        (arg10.view.readAt (Elt Ideal) (Rect.unit (s := S1x1x5120) o10 S1x1x256.size b10).toLoadRect (harg10.unread x7)))
      (arg6.view.readAt (Elt Ideal) (Rect.unit (s := S1x7x128x128) ![0, r.val, 0, 0] S1x1x128x128.size b6).toLoadRect (harg6.unread x3)) qk
      (arg13.view.readAt (Elt Ideal) (Rect.unit (s := S7x128x128) ![r.val, 0, 0] S1x128x128.size b13).toLoadRect f) x
    = (fun y : S7x128x128.Idx => (arg13.view.read (Elt Ideal) f y : EReal) + ∑ j : Fin 256, keyTerm i inv x1 x3 x4 x5 x6 x7 (y 0) (y 1) (y 2) (256 * (w.toNat / 256 + k.val) + j.val))
        ((Rect.unit (s := S7x128x128) ![r.val, 0, 0] S1x128x128.size b13).emb x) := by
  subst hq
  obtain ⟨p, d, rfl⟩ : ∃ p d : Fin 128, x = ix3 0 p d := ⟨x 1, x 2, by funext a; fin_cases a; exact Fin.ext (by have := (x 0).isLt; simp at this ⊢); rfl; rfl⟩
  have he : (Rect.unit (s := S7x128x128) ![r.val, 0, 0] S1x128x128.size b13).emb (ix3 0 p d) = (ix3 r p d : S7x128x128.Idx) := by
    funext a; apply Fin.ext
    refine (Rect.idx_unit_val _ _ b13 (ix3 0 p d) a).trans ?_
    fin_cases a
    · show r.val + 0 = r.val; omega
    · show 0 + p.val = p.val; omega
    · show 0 + d.val = d.val; omega
  rw [he]
  refine (pay8_apply _ _ _ _ _ _ _ p d).trans ?_
  refine congrArg₂ (· + ·) (readAt_read arg13.view f _ _ b13 (ix3 0 p d) (ix3 r p d) fun a => ?_) (Finset.sum_congr rfl fun j _ => ?_)
  · fin_cases a
    · show r.val + 0 = r.val; omega
    · show 0 + p.val = p.val; omega
    · show 0 + d.val = d.val; omega
  have hj := key_lt i w hw k j
  have e2 := off2_eq i w hw k
  have e3 := off3_eq i w hw k
  show _ = keyTerm i inv x1 x3 x4 x5 x6 x7 r p d (256 * (w.toNat / 256 + k.val) + j.val)
  unfold keyTerm
  rw [dif_pos hj]
  have eQ : ∀ e : Fin 128, arg6.view.readAt (Elt Ideal) (Rect.unit (s := S1x7x128x128) ![0, r.val, 0, 0] S1x1x128x128.size b6).toLoadRect (harg6.unread x3) (ix4 0 0 p e) = x3 (ix4 0 r p e) :=
    fun e => readAt_unread harg6 x3 _ _ b6 (ix4 0 0 p e) (ix4 0 r p e) fun a => by
      fin_cases a
      · rfl
      · show r.val + 0 = r.val; omega
      · show 0 + p.val = p.val; omega
      · show 0 + e.val = e.val; omega
  have eK : ∀ e : Fin 128, k0_pay3 (F := Ideal) (arg7.view.readAt (Elt Ideal) (Rect.unit (s := S1x1x5120x128) o7 S1x1x256x128.size b7).toLoadRect (harg7.unread x4)) (ix2 j e) = x4 (ix4 0 0 ⟨_, hj⟩ e) :=
    fun e => (pay3_apply _ j e).trans (readAt_unread harg7 x4 _ _ b7 (ix4 0 0 j e) (ix4 0 0 ⟨_, hj⟩ e) fun a => by
      refine (congrArg (· + _) ((congrFun ho7 a).trans (congrFun e2 a))).trans ?_
      fin_cases a
      · rfl
      · rfl
      · rfl
      · show 0 + e.val = e.val; omega)
  have eV : k0_pay4 (F := Ideal) (arg8.view.readAt (Elt Ideal) (Rect.unit (s := S1x1x5120x128) o8 S1x1x256x128.size b8).toLoadRect (harg8.unread x5)) (ix2 j d) = x5 (ix4 0 0 ⟨_, hj⟩ d) :=
    (pay4_apply _ j d).trans (readAt_unread harg8 x5 _ _ b8 (ix4 0 0 j d) (ix4 0 0 ⟨_, hj⟩ d) fun a => by
      refine (congrArg (· + _) ((congrFun ho8 a).trans (congrFun e2 a))).trans ?_
      fin_cases a
      · rfl
      · rfl
      · rfl
      · show 0 + d.val = d.val; omega)
  have e9 : arg9.view.readAt (Elt Ideal) (Rect.unit (s := S1x128x128) ![0, 0, 0] S1x128x1.size b9).toLoadRect (harg9.unread x6) (ix3 0 p 0) = x6 (ix3 0 p 0) :=
    readAt_unread harg9 x6 _ _ b9 (ix3 0 p 0) (ix3 0 p 0) fun a => by
      fin_cases a
      · rfl
      · show 0 + p.val = p.val; omega
      · rfl
  have e10 : arg10.view.readAt (Elt Ideal) (Rect.unit (s := S1x1x5120) o10 S1x1x256.size b10).toLoadRect (harg10.unread x7) (ix3 0 0 j) = x7 (ix3 0 0 ⟨_, hj⟩) :=
    readAt_unread harg10 x7 _ _ b10 (ix3 0 0 j) (ix3 0 0 ⟨_, hj⟩) fun a => by
      refine (congrArg (· + _) ((congrFun ho10 a).trans (congrFun e3 a))).trans ?_
      fin_cases a <;> rfl
  refine congrArg₂ (· * ·) ?_ eV
  refine congr (congrArg (fun s => code s _ inv) (Finset.sum_congr rfl fun e _ => congrArg₂ (· * ·) (eQ e) (eK e))) ?_
  refine (pay5_apply i w hw k _ _ p j).trans ?_
  exact congrArg (IntOp.andi _) (congrArg₂ (IntOp.cmpi .eq) e10 e9)

/-- The scale a trip reads for head `r`. -/
theorem qk_apply (i : grid0.Coords) {arg4 : Memref sig .tc .smem S4x7 .f32} (harg4 : arg4.IsWhole) (x1 : FVec Ideal S4x7 .f32) (r : Fin 7) (o : Fin 2 → Nat)
    (ho : o = ![(BitVec.ofNat 32 (i 1).val).toNat, r.val]) (b : ∀ a, o a + S1x1.size a ≤ S4x7.size a) (y : S1x1.Idx) :
    arg4.view.readAt (Elt Ideal) (Rect.unit (s := S4x7) o S1x1.size b).toLoadRect (harg4.unread x1) y = x1 (ix2 (gOf i) r) :=
  readAt_unread harg4 x1 _ _ b y (ix2 (gOf i) r) fun a => by
    subst ho
    have h0 : (y 0).val = 0 := by have := (y 0).isLt; change (y 0).val < 1 at this; omega
    have h1 : (y 1).val = 0 := by have := (y 1).isLt; change (y 1).val < 1 at this; omega
    have hi : (i 1).val < 4 := (i 1).isLt
    have e : (BitVec.ofNat 32 (i 1).val).toNat = (i 1).val := by rw [BitVec.toNat_ofNat]; omega
    fin_cases a
    · show (BitVec.ofNat 32 (i 1).val).toNat + (y 0).val = (i 1).val; omega
    · show r.val + (y 1).val = r.val; omega

section Trip

variable (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
  (arg1 : BitVec 32) (inv : EReal) (w : BitVec 32) (hw1 : k0_chk1 i w) (v34 : BitVec 32)
  (x1 : FVec Ideal S4x7 .f32) (x3 : FVec Ideal S1x7x128x128 .fp8e4m3) (x4 x5 : FVec Ideal S1x1x5120x128 .fp8e4m3) (x6 : IVec S1x128x128 32) (x7 : IVec S1x1x5120 32)

/-- The queries' segment ids as the loop takes them. -/
abbrev segQ : IVec S128x1 32 :=
  k0_pay32 (F := Ideal) (arg9.view.readAt (Elt Ideal) (Rect.unit (s := S1x128x128) ![0, 0, 0] S1x128x1.size inb_S1x128x128_S1x128x1_0_0_0).toLoadRect (harg9.unread x6))

/-- The pieces of one trip. -/
abbrev tripP (k : Fin (k0_t1_loop i w).trips) (f : BufTy.Contents (Elt Ideal) arg13.view.ty) : List (View.Piece (Elt Ideal) S7x128x128 .f32) :=
  tripL_k0_t1 (F := Ideal) Variants.none c none i arg3 harg3 arg4 harg4 arg5 harg5 arg6 harg6 arg7 harg7 arg8 harg8 arg9 harg9 arg10 harg10 arg11 harg11 arg12 harg12 arg13 harg13 arg1 inv (segQ arg9 harg9 x6) (k0_pay33 i) (iota .tc S128x256 32 [1] iota_S128x256_d1_w32) w hw1 (Cert.Words.floorDiv w) v34
    (harg4.unread x1) (harg6.unread x3) (harg7.unread x4) (harg8.unread x5) (harg10.unread x7) k f

/-- The pieces of the trips before `k`. -/
abbrev loopP (G : BufTy.Contents (Elt Ideal) arg13.view.ty) (k : Nat) : List (View.Piece (Elt Ideal) S7x128x128 .f32) :=
  pb_k0_t1 (F := Ideal) Variants.none c none i arg3 harg3 arg4 harg4 arg5 harg5 arg6 harg6 arg7 harg7 arg8 harg8 arg9 harg9 arg10 harg10 arg11 harg11 arg12 harg12 arg13 harg13 arg1 inv (segQ arg9 harg9 x6) (k0_pay33 i) (iota .tc S128x256 32 [1] iota_S128x256_d1_w32) w hw1 (Cert.Words.floorDiv w) v34
    (harg4.unread x1) (harg6.unread x3) (harg7.unread x4) (harg8.unread x5) (harg10.unread x7) G k

set_option maxHeartbeats 1000000 in
/-- Each of a trip's pieces holds, at every index, what was there plus the block's sum. -/
theorem trip_pieces (hw : w.toNat ≤ 5120) (k : Fin (k0_t1_loop i w).trips) (f : BufTy.Contents (Elt Ideal) arg13.view.ty) :
    ∀ pc ∈ tripP c i arg3 harg3 arg4 harg4 arg5 harg5 arg6 harg6 arg7 harg7 arg8 harg8 arg9 harg9 arg10 harg10 arg11 harg11 arg12 harg12 arg13 harg13 arg1 inv w hw1 v34 x1 x3 x4 x5 x6 x7 k f, ∀ x : pc.1.shape.Idx,
      pc.2 x = (fun y : S7x128x128.Idx => (arg13.view.read (Elt Ideal) f y : EReal) + ∑ j : Fin 256, keyTerm i inv x1 x3 x4 x5 x6 x7 (y 0) (y 1) (y 2) (256 * (w.toNat / 256 + k.val) + j.val)) (pc.1.emb x) := by
  unfold tripP tripL_k0_t1 trip_k0_t1
  dsimp only
  refine List.forall_mem_cons.mpr ⟨fun x => ?_, List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_, fun _ h => absurd h List.not_mem_nil⟩⟩⟩⟩⟩⟩⟩
  · exact piece_apply i inv w hw k harg6 harg7 harg8 harg9 harg10 arg13 x1 x3 x4 x5 x6 x7 f 6 _
      (qk_apply i harg4 x1 6 (k0_off10 i) rfl _ _) _ _ rfl rfl _ rfl inb_S1x7x128x128_S1x1x128x128_0_6_0_0 inb_S7x128x128_S1x128x128_6_0_0 _ _ _ _ x
  · exact piece_apply i inv w hw k harg6 harg7 harg8 harg9 harg10 arg13 x1 x3 x4 x5 x6 x7 f 5 _
      (qk_apply i harg4 x1 5 (k0_off9 i) rfl _ _) _ _ rfl rfl _ rfl inb_S1x7x128x128_S1x1x128x128_0_5_0_0 inb_S7x128x128_S1x128x128_5_0_0 _ _ _ _ x
  · exact piece_apply i inv w hw k harg6 harg7 harg8 harg9 harg10 arg13 x1 x3 x4 x5 x6 x7 f 4 _
      (qk_apply i harg4 x1 4 (k0_off8 i) rfl _ _) _ _ rfl rfl _ rfl inb_S1x7x128x128_S1x1x128x128_0_4_0_0 inb_S7x128x128_S1x128x128_4_0_0 _ _ _ _ x
  · exact piece_apply i inv w hw k harg6 harg7 harg8 harg9 harg10 arg13 x1 x3 x4 x5 x6 x7 f 3 _
      (qk_apply i harg4 x1 3 (k0_off7 i) rfl _ _) _ _ rfl rfl _ rfl inb_S1x7x128x128_S1x1x128x128_0_3_0_0 inb_S7x128x128_S1x128x128_3_0_0 _ _ _ _ x
  · exact piece_apply i inv w hw k harg6 harg7 harg8 harg9 harg10 arg13 x1 x3 x4 x5 x6 x7 f 2 _
      (qk_apply i harg4 x1 2 (k0_off6 i) rfl _ _) _ _ rfl rfl _ rfl inb_S1x7x128x128_S1x1x128x128_0_2_0_0 inb_S7x128x128_S1x128x128_2_0_0 _ _ _ _ x
  · exact piece_apply i inv w hw k harg6 harg7 harg8 harg9 harg10 arg13 x1 x3 x4 x5 x6 x7 f 1 _
      (qk_apply i harg4 x1 1 (k0_off5 i) rfl _ _) _ _ rfl rfl _ rfl inb_S1x7x128x128_S1x1x128x128_0_1_0_0 inb_S7x128x128_S1x128x128_1_0_0 _ _ _ _ x
  · exact piece_apply i inv w hw k harg6 harg7 harg8 harg9 harg10 arg13 x1 x3 x4 x5 x6 x7 f 0 _
      (qk_apply i harg4 x1 0 (k0_off4 i) rfl _ _) _ _ rfl rfl _ rfl inb_S1x7x128x128_S1x1x128x128_0_0_0_0 inb_S7x128x128_S1x128x128_0_0_0 _ _ _ _ x

/-- One trip on the accumulator. -/
theorem trip_read (hw : w.toNat ≤ 5120) (k : Fin (k0_t1_loop i w).trips) (f : BufTy.Contents (Elt Ideal) arg13.view.ty) (y : S7x128x128.Idx) :
    @Eq EReal (arg13.view.read (Elt Ideal) (arg13.view.writes (Elt Ideal) f (tripP c i arg3 harg3 arg4 harg4 arg5 harg5 arg6 harg6 arg7 harg7 arg8 harg8 arg9 harg9 arg10 harg10 arg11 harg11 arg12 harg12 arg13 harg13 arg1 inv w hw1 v34 x1 x3 x4 x5 x6 x7 k f)) y)
      ((arg13.view.read (Elt Ideal) f y : EReal) + ∑ j : Fin 256, keyTerm i inv x1 x3 x4 x5 x6 x7 (y 0) (y 1) (y 2) (256 * (w.toNat / 256 + k.val) + j.val)) := by
  have hc : ∃ pc ∈ tripP c i arg3 harg3 arg4 harg4 arg5 harg5 arg6 harg6 arg7 harg7 arg8 harg8 arg9 harg9 arg10 harg10 arg11 harg11 arg12 harg12 arg13 harg13 arg1 inv w hw1 v34 x1 x3 x4 x5 x6 x7 k f, y ∈ pc.1.set := by
    unfold tripP tripL_k0_t1 trip_k0_t1
    exact View.cover_of_tiledL (s := S7x128x128) _ S1x128x128.size (by sl_kernel_rfl) y
  exact (View.read_writes_apply_eq_canon _ _ _ _ hc).trans
    (View.canon_apply_of_pieces (fun y : S7x128x128.Idx => (arg13.view.read (Elt Ideal) f y : EReal) + ∑ j : Fin 256, keyTerm i inv x1 x3 x4 x5 x6 x7 (y 0) (y 1) (y 2) (256 * (w.toNat / 256 + k.val) + j.val)) _ (trip_pieces c i arg3 harg3 arg4 harg4 arg5 harg5 arg6 harg6 arg7 harg7 arg8 harg8 arg9 harg9 arg10 harg10 arg11 harg11 arg12 harg12 arg13 harg13 arg1 inv w hw1 v34 x1 x3 x4 x5 x6 x7 hw k f) y hc)

/-- The loop's first `k` trips on the accumulator. -/
theorem loop_read (hw : w.toNat ≤ 5120) (G : BufTy.Contents (Elt Ideal) arg13.view.ty) (y : S7x128x128.Idx) : ∀ k : Nat, k ≤ (k0_t1_loop i w).trips →
    @Eq EReal (arg13.view.read (Elt Ideal) (arg13.view.writes (Elt Ideal) G (loopP c i arg3 harg3 arg4 harg4 arg5 harg5 arg6 harg6 arg7 harg7 arg8 harg8 arg9 harg9 arg10 harg10 arg11 harg11 arg12 harg12 arg13 harg13 arg1 inv w hw1 v34 x1 x3 x4 x5 x6 x7 G k)) y)
      ((arg13.view.read (Elt Ideal) G y : EReal) + ∑ n ∈ Finset.range k, ∑ j : Fin 256, keyTerm i inv x1 x3 x4 x5 x6 x7 (y 0) (y 1) (y 2) (256 * (w.toNat / 256 + n) + j.val))
  | 0, _ => by
    rw [Finset.range_zero, Finset.sum_empty, add_zero]
    rfl
  | k + 1, hk => by
    have ih := loop_read hw G y k (by omega)
    have hs := pb_k0_t1_succ (F := Ideal) Variants.none c none i arg3 harg3 arg4 harg4 arg5 harg5 arg6 harg6 arg7 harg7 arg8 harg8 arg9 harg9 arg10 harg10 arg11 harg11 arg12 harg12 arg13 harg13 arg1 inv (segQ arg9 harg9 x6) (k0_pay33 i) (iota .tc S128x256 32 [1] iota_S128x256_d1_w32) w hw1 (Cert.Words.floorDiv w) v34
      (harg4.unread x1) (harg6.unread x3) (harg7.unread x4) (harg8.unread x5) (harg10.unread x7) G ⟨k, by omega⟩
    refine (congrArg (fun L => arg13.view.read (Elt Ideal) (arg13.view.writes (Elt Ideal) G L) y) hs).trans ?_
    refine (congrArg (fun g => arg13.view.read (Elt Ideal) g y) (View.writes_append _ _ _ _)).trans ?_
    refine (trip_read c i arg3 harg3 arg4 harg4 arg5 harg5 arg6 harg6 arg7 harg7 arg8 harg8 arg9 harg9 arg10 harg10 arg11 harg11 arg12 harg12 arg13 harg13 arg1 inv w hw1 v34 x1 x3 x4 x5 x6 x7 hw ⟨k, by omega⟩ _ y).trans ?_
    rw [Finset.sum_range_succ, ← add_assoc]
    exact congrArg (· + _) ih

end Trip

end Cert.KernelIdeal.Hand
end
-- ==== Proof.KIFrame.lean ====
/-
  The ideal kernel's frame: the body at every grid point, the pipeline's proof data, the run, every argument unchanged and
  every counter at zero.
-/
module

public import proofs.«01_k».proof.Proof.KIRun
public import Idealize.ShloMosaic.Lib.Claim

@[expose] public section

-- the blocks are large and a membership check recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven pieces tile the output block, so they cover it. -/
theorem cover9 (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) (y : S1x128x896.Idx) :
    ∃ pc ∈ (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1, y ∈ pc.1.set :=
  View.cover_of_tiledL (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1 S1x128x128.size (by sl_kernel_rfl) y

/-- What the body leaves in the output's staging buffer: its pieces read back. -/
def blockOut (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
    (x0 : Vec F S5x40 .i32) (x1 : Vec F S4x7 .f32) (x2 : Vec F S1 .f32) (x3 : Vec F S1x7x128x128 .fp8e4m3) (x4 : Vec F S1x1x5120x128 .fp8e4m3) (x5 : Vec F S1x1x5120x128 .fp8e4m3) (x6 : Vec F S1x128x128 .i32) (x7 : Vec F S1x1x5120 .i32) (x8 : Vec F S1x1x128 .f32) (k0_hw1 : k0_chk1 i (arg3.view.readAt (Elt F) (Rect.unit (s := S5x40) (k0_off1 i) S1x1.size (k0_off1_inb i)).toLoadRect (harg3.unread x0) (Shape.Idx.first (numel1_S1x1.symm ▸ Nat.one_pos)))) : Vec F S1x128x896 .bf16 :=
  VO0_9.read (Elt F) (VO0_9.writes (Elt F) VO0_9.junk (bodyRun c i arg3 harg3 arg4 harg4 arg5 harg5 arg6 harg6 arg7 harg7 arg8 harg8 arg9 harg9 arg10 harg10 arg11 harg11 arg12 harg12 arg13 harg13 x0 x1 x2 x3 x4 x5 x6 x7 x8 k0_hw1).1)

/-! ## What the outputs hold after each point -/

/-- What the output's staging buffer holds after the body at point `t`. -/
def outsAt0 (hH : Hyps m) (c : Dev nD) (t : Fin cfg0.N) : Vec F S1x128x896 .bf16 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (hH c t)

/-! ## The pipeline's proof data -/

/-- The pipeline's proof data: the arrays as the region finds them; after the body at point `t` each input's buffer at
    its block and the output's at `outsAt0`. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m hH c t)
  Φ _ := Pipeline.ΦA spec0 c
  q _ := fullShare
  owed _ := 0

/-- The proof data's arrays are the contents at the region's entry. -/
theorem A_eq (hH : Hyps m) (c : Dev nD) (w : Fin cfg0.W) : (dats m hH 0 c).A w = V m c (Pipeline.arrRef spec0 w) := by
  dsimp only [dats]

/-- What the body leaves, window by window. -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = (outsAt0 m hH c t) := by dsimp only [dats]

/-- Each input's current staging buffer holds its block at every point, fetched there or not. -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t`, the windows one by one, -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t))

set_option maxHeartbeats 800000 in
/-- The body at any point. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9]
  rw [show (dats m hH 0 c).Φ t.castSucc = Pipeline.ΦA spec0 c from rfl, PhiA0_eq]
  unfold outsAt0
  unfold blockOut
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((bodyRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover9 c _ _ _ _ _ _ _ _ _ _ _ _ _ _ _ _ _ _ _ _ _ _ _ _ _ _ _ _ _ _ _ _ _)

/-- The row of the body table at point `t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

set_option backward.isDefEq.respectTransparency.types false in
/-- The run: every array ends as the proof data says, and every counter at zero. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- The run, without the counters. -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m hH) (A_eq m hH) (run_main m ρ hH)

/-- The frame: the run ends, every argument array as it was, every counter at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hH) ((θ_run defs _ _).mono (fun _ h => h.2) (run_main_quiescent m ρ hH))

end Cert.KernelIdeal.Hand

end
-- ==== Proof.KIBody.lean ====
/-
  What the body leaves in the output block: per head the accumulator, which began at zero and went through the key loop,
  times the values' scale.
-/
module

public import proofs.«01_k».proof.Proof.KITrip
public import proofs.«01_k».proof.Proof.KIFrame

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Spec

/-- A head's output at an index. -/
theorem pay2_apply (acc : FVec Ideal S1x128x128 .f32) (sc : FVec Ideal S1x1x128 .f32) (p d : Fin 128) :
    k0_pay2 (F := Ideal) acc sc (ix3 0 p d) = acc (ix3 0 p d) * sc (ix3 0 0 d) := by
  unfold_payloads
  pointwise

/-- The store that clears the accumulator. -/
abbrev Z : List (View.Piece (Elt Ideal) S7x128x128 .f32) :=
  [⟨Rect.unit (s := S7x128x128) ![0, 0, 0] S7x128x128.size inb_S7x128x128_S7x128x128_0_0_0, k0_pay31 (F := Ideal)⟩]

/-- The accumulator after the clearing store is zero. -/
theorem zero_read {arg13 : Memref sig .tc .vmem S7x128x128 .f32} (f : BufTy.Contents (Elt Ideal) arg13.view.ty) (y : S7x128x128.Idx) :
    @Eq EReal (arg13.view.read (Elt Ideal) (arg13.view.writes (Elt Ideal) f Z) y) 0 := by
  have hc : ∃ pc ∈ Z, y ∈ pc.1.set := View.cover_of_tiledL Z S7x128x128.size (by sl_kernel_rfl) y
  refine (View.read_writes_apply_eq_canon _ _ _ _ hc).trans (View.canon_apply_of_pieces (fun _ => (0 : EReal)) _ ?_ y hc)
  refine List.forall_mem_cons.mpr ⟨fun x => ?_, fun _ h => absurd h List.not_mem_nil⟩
  show Ideal.ofBits .f32 0x00000000#32 = 0
  exact Ideal.ofBits_zero_f32

section Body

variable (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
  (arg1 : BitVec 32) (inv : EReal) (w : BitVec 32) (hw1 : k0_chk1 i w) (v34 : BitVec 32)
  (x1 : FVec Ideal S4x7 .f32) (x3 : FVec Ideal S1x7x128x128 .fp8e4m3) (x4 x5 : FVec Ideal S1x1x5120x128 .fp8e4m3) (x6 : IVec S1x128x128 32) (x7 : IVec S1x1x5120 32) (x8 : FVec Ideal S1x1x128 .f32)
  (L2 : Nat → List (View.Piece (Elt Ideal) S7x128x128 .f32)) (n1 n2 : Nat)

/-- The accumulator after both loops (the second has no trip): the sum over the blocks gone through. -/
theorem acc_read (hw : w.toNat ≤ 5120) (hn1 : n1 = (k0_t1_loop i w).trips) (hn2 : n2 = 0) (hL2 : L2 0 = []) (y : S7x128x128.Idx) :
    @Eq EReal (arg13.view.read (Elt Ideal) (arg13.view.writes (Elt Ideal) arg13.view.junk (L2 n2 ++ (loopP c i arg3 harg3 arg4 harg4 arg5 harg5 arg6 harg6 arg7 harg7 arg8 harg8 arg9 harg9 arg10 harg10 arg11 harg11 arg12 harg12 arg13 harg13 arg1 inv w hw1 v34 x1 x3 x4 x5 x6 x7 (arg13.view.writes (Elt Ideal) arg13.view.junk Z) n1 ++ Z))) y)
      (∑ n ∈ Finset.range (last i - w.toNat / 256), ∑ j : Fin 256, keyTerm i inv x1 x3 x4 x5 x6 x7 (y 0) (y 1) (y 2) (256 * (w.toNat / 256 + n) + j.val)) := by
  rw [hn2, hL2, List.nil_append, hn1]
  refine (congrArg (fun g => arg13.view.read (Elt Ideal) g y) (View.writes_append _ _ _ _)).trans ?_
  refine (loop_read c i arg3 harg3 arg4 harg4 arg5 harg5 arg6 harg6 arg7 harg7 arg8 harg8 arg9 harg9 arg10 harg10 arg11 harg11 arg12 harg12 arg13 harg13 arg1 inv w hw1 v34 x1 x3 x4 x5 x6 x7 hw _ y _ le_rfl).trans ?_
  rw [zero_read, zero_add, t1_trips i w hw]

/-- What head `r` stores, at an index. -/
theorem out_piece (hw : w.toNat ≤ 5120) (hn1 : n1 = (k0_t1_loop i w).trips) (hn2 : n2 = 0) (hL2 : L2 0 = []) (r : Fin 7) (o : Fin 3 → Nat) (ho : o = ![0, 0, 128 * r.val])
    (b13 : ∀ a, (![r.val, 0, 0] : Fin 3 → Nat) a + S1x128x128.size a ≤ S7x128x128.size a)
    (b11 : ∀ a, (![0, 0, 0] : Fin 3 → Nat) a + S1x1x128.size a ≤ S1x1x128.size a)
    (bo : ∀ a, o a + S1x128x128.size a ≤ S1x128x896.size a) (x : S1x128x128.Idx) :
    k0_pay2 (F := Ideal) (arg13.view.readCov (L2 n2 ++ (loopP c i arg3 harg3 arg4 harg4 arg5 harg5 arg6 harg6 arg7 harg7 arg8 harg8 arg9 harg9 arg10 harg10 arg11 harg11 arg12 harg12 arg13 harg13 arg1 inv w hw1 v34 x1 x3 x4 x5 x6 x7 (arg13.view.writes (Elt Ideal) arg13.view.junk Z) n1 ++ Z)) (Rect.unit (s := S7x128x128) ![r.val, 0, 0] S1x128x128.size b13).toLoadRect)
      (arg11.view.readAt (Elt Ideal) (Rect.unit (s := S1x1x128) ![0, 0, 0] S1x1x128.size b11).toLoadRect (harg11.unread x8)) x
    = (fun y : S1x128x896.Idx => (∑ n ∈ Finset.range (last i - w.toNat / 256), ∑ j : Fin 256, keyTerm i inv x1 x3 x4 x5 x6 x7 ⟨(y 2).val / 128, by have := (y 2).isLt; change (y 2).val < 896 at this; omega⟩ (y 1) ⟨(y 2).val % 128, by omega⟩ (256 * (w.toNat / 256 + n) + j.val))
        * x8 (ix3 0 0 ⟨(y 2).val % 128, by omega⟩)) ((Rect.unit (s := S1x128x896) o S1x128x128.size bo).emb x) := by
  subst ho
  obtain ⟨p, d, rfl⟩ : ∃ p d : Fin 128, x = ix3 0 p d := ⟨x 1, x 2, by funext a; fin_cases a; exact Fin.ext (by have := (x 0).isLt; simp at this ⊢); rfl; rfl⟩
  have hr := r.isLt
  have hd := d.isLt
  have he : (Rect.unit (s := S1x128x896) ![0, 0, 128 * r.val] S1x128x128.size bo).emb (ix3 0 p d) = (ix3 0 p ⟨128 * r.val + d.val, by omega⟩ : S1x128x896.Idx) := by
    funext a; apply Fin.ext
    refine (Rect.idx_unit_val _ _ bo (ix3 0 p d) a).trans ?_
    fin_cases a
    · rfl
    · show 0 + p.val = p.val; omega
    · rfl
  rw [he]
  have e1 : (⟨(128 * r.val + d.val) / 128, by omega⟩ : Fin 7) = r := Fin.ext (by show (128 * r.val + d.val) / 128 = r.val; omega)
  have e2 : (⟨(128 * r.val + d.val) % 128, by omega⟩ : Fin 128) = d := Fin.ext (by show (128 * r.val + d.val) % 128 = d.val; omega)
  refine (pay2_apply _ _ p d).trans ?_
  show _ = (∑ n ∈ Finset.range (last i - w.toNat / 256), ∑ j : Fin 256, keyTerm i inv x1 x3 x4 x5 x6 x7 ⟨(128 * r.val + d.val) / 128, by omega⟩ p ⟨(128 * r.val + d.val) % 128, by omega⟩ (256 * (w.toNat / 256 + n) + j.val))
        * x8 (ix3 0 0 ⟨(128 * r.val + d.val) % 128, by omega⟩)
  rw [e1, e2]
  refine congrArg₂ (· * ·) ?_ (readAt_unread harg11 x8 _ _ b11 (ix3 0 0 d) (ix3 0 0 d) fun a => ?_)
  · refine (readAt_read arg13.view _ _ _ b13 (ix3 0 p d) (ix3 r p d) fun a => ?_).trans
      (acc_read c i arg3 harg3 arg4 harg4 arg5 harg5 arg6 harg6 arg7 harg7 arg8 harg8 arg9 harg9 arg10 harg10 arg11 harg11 arg12 harg12 arg13 harg13 arg1 inv w hw1 v34 x1 x3 x4 x5 x6 x7 L2 n1 n2 hw hn1 hn2 hL2 (ix3 r p d))
    fin_cases a
    · show r.val + 0 = r.val; omega
    · show 0 + p.val = p.val; omega
    · show 0 + d.val = d.val; omega
  · fin_cases a
    · rfl
    · rfl
    · show 0 + d.val = d.val; omega

end Body

section Block

variable (c : Dev nD) (i : grid0.Coords) (arg3 : Memref sig .tc .smem S5x40 .i32) (harg3 : arg3.IsWhole) (arg4 : Memref sig .tc .smem S4x7 .f32) (harg4 : arg4.IsWhole) (arg5 : Memref sig .tc .smem S1 .f32) (harg5 : arg5.IsWhole) (arg6 : Memref sig .tc .vmem S1x7x128x128 .fp8e4m3) (harg6 : arg6.IsWhole) (arg7 : Memref sig .tc .vmem S1x1x5120x128 .fp8e4m3) (harg7 : arg7.IsWhole) (arg8 : Memref sig .tc .vmem S1x1x5120x128 .fp8e4m3) (harg8 : arg8.IsWhole) (arg9 : Memref sig .tc .vmem S1x128x128 .i32) (harg9 : arg9.IsWhole) (arg10 : Memref sig .tc .vmem S1x1x5120 .i32) (harg10 : arg10.IsWhole) (arg11 : Memref sig .tc .vmem S1x1x128 .f32) (harg11 : arg11.IsWhole) (arg12 : Memref sig .tc .vmem S1x128x896 .bf16) (harg12 : arg12.IsWhole) (arg13 : Memref sig .tc .vmem S7x128x128 .f32) (harg13 : arg13.IsWhole)
  (x0 : Vec Ideal S5x40 .i32) (x1 : Vec Ideal S4x7 .f32) (x2 : Vec Ideal S1 .f32) (x3 : Vec Ideal S1x7x128x128 .fp8e4m3) (x4 : Vec Ideal S1x1x5120x128 .fp8e4m3) (x5 : Vec Ideal S1x1x5120x128 .fp8e4m3) (x6 : Vec Ideal S1x128x128 .i32) (x7 : Vec Ideal S1x1x5120 .i32) (x8 : Vec Ideal S1x1x128 .f32)
  (hw1 : k0_chk1 i (arg3.view.readAt (Elt Ideal) (Rect.unit (s := S5x40) (k0_off1 i) S1x1.size (k0_off1_inb i)).toLoadRect (harg3.unread x0) (Shape.Idx.first (numel1_S1x1.symm ▸ Nat.one_pos))))

set_option maxHeartbeats 1000000 in
/-- Each of the body's stores into the output block, at an index. -/
theorem body_pieces (w : BitVec 32) (ew : (arg3.view.readAt (Elt Ideal) (Rect.unit (s := S5x40) (k0_off1 i) S1x1.size (k0_off1_inb i)).toLoadRect (harg3.unread x0) (Shape.Idx.first (numel1_S1x1.symm ▸ Nat.one_pos))) = w) (hw : w.toNat ≤ 5120) (inv : EReal) (einv : x2 (ix1 0) = inv) :
    ∀ pc ∈ (bodyRun (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 hw1).1, ∀ x : pc.1.shape.Idx,
      pc.2 x = (fun y : S1x128x896.Idx => (∑ n ∈ Finset.range (last i - w.toNat / 256), ∑ j : Fin 256, keyTerm i inv x1 x3 x4 x5 x6 x7 ⟨(y 2).val / 128, by have := (y 2).isLt; change (y 2).val < 896 at this; omega⟩ (y 1) ⟨(y 2).val % 128, by omega⟩ (256 * (w.toNat / 256 + n) + j.val))
        * x8 (ix3 0 0 ⟨(y 2).val % 128, by omega⟩)) (pc.1.emb x) := by
  have ei : arg5.view.readAt (Elt Ideal) (Rect.unit (s := S1) ![0] S1.size inb_S1_S1_0).toLoadRect (harg5.unread x2) (Shape.Idx.first (numel1_S1.symm ▸ Nat.one_pos)) = inv :=
    (readAt_unread harg5 x2 _ _ inb_S1_S1_0 _ (ix1 0) fun a => by fin_cases a; rfl).trans einv
  subst ew
  subst ei
  unfold bodyRun
  dsimp only
  refine List.forall_mem_cons.mpr ⟨fun x => ?_, List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_, fun _ h => absurd h List.not_mem_nil⟩⟩⟩⟩⟩⟩⟩
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 6 _ rfl inb_S7x128x128_S1x128x128_6_0_0 _ inb_S1x128x896_S1x128x128_0_0_768 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 5 _ rfl inb_S7x128x128_S1x128x128_5_0_0 _ inb_S1x128x896_S1x128x128_0_0_640 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 4 _ rfl inb_S7x128x128_S1x128x128_4_0_0 _ inb_S1x128x896_S1x128x128_0_0_512 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 3 _ rfl inb_S7x128x128_S1x128x128_3_0_0 _ inb_S1x128x896_S1x128x128_0_0_384 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 2 _ rfl inb_S7x128x128_S1x128x128_2_0_0 _ inb_S1x128x896_S1x128x128_0_0_256 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 1 _ rfl inb_S7x128x128_S1x128x128_1_0_0 _ inb_S1x128x896_S1x128x128_0_0_128 x
  · exact out_piece c i arg3 harg3 arg4 harg4 arg5 harg5 arg6 harg6 arg7 harg7 arg8 harg8 arg9 harg9 arg10 harg10 arg11 harg11 arg12 harg12 arg13 harg13 _ _ _ hw1 _ x1 x3 x4 x5 x6 x7 x8 _ _ _ hw rfl (t2_trips i _ hw) rfl 0 _ rfl inb_S7x128x128_S1x128x128_0_0_0 _ inb_S1x128x896_S1x128x128_0_0_0 x

/-- The output block after the body. -/
theorem blockOut_apply (w : BitVec 32) (ew : (arg3.view.readAt (Elt Ideal) (Rect.unit (s := S5x40) (k0_off1 i) S1x1.size (k0_off1_inb i)).toLoadRect (harg3.unread x0) (Shape.Idx.first (numel1_S1x1.symm ▸ Nat.one_pos))) = w) (hw : w.toNat ≤ 5120) (inv : EReal) (einv : x2 (ix1 0) = inv) (r : Fin 7) (p d : Fin 128) (l : Fin 896) (hl : l.val = 128 * r.val + d.val) :
    @Eq EReal (blockOut (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 hw1 (ix3 0 p l))
      ((∑ n ∈ Finset.range (last i - w.toNat / 256), ∑ j : Fin 256, keyTerm i inv x1 x3 x4 x5 x6 x7 r p d (256 * (w.toNat / 256 + n) + j.val)) * x8 (ix3 0 0 d)) := by
  have hr := r.isLt
  have hd := d.isLt
  have hc := cover9 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 hw1 (ix3 0 p l)
  refine (View.read_writes_apply_eq_canon _ _ _ _ hc).trans
    ((View.canon_apply_of_pieces (fun y : S1x128x896.Idx => (∑ n ∈ Finset.range (last i - w.toNat / 256), ∑ j : Fin 256, keyTerm i inv x1 x3 x4 x5 x6 x7 ⟨(y 2).val / 128, by have := (y 2).isLt; change (y 2).val < 896 at this; omega⟩ (y 1) ⟨(y 2).val % 128, by omega⟩ (256 * (w.toNat / 256 + n) + j.val))
        * x8 (ix3 0 0 ⟨(y 2).val % 128, by omega⟩)) _ (body_pieces c i arg3 harg3 arg4 harg4 arg5 harg5 arg6 harg6 arg7 harg7 arg8 harg8 arg9 harg9 arg10 harg10 arg11 harg11 arg12 harg12 arg13 harg13 x0 x1 x2 x3 x4 x5 x6 x7 x8 hw1 w ew hw inv einv) _ hc).trans ?_)
  have e1 : (⟨l.val / 128, by omega⟩ : Fin 7) = r := Fin.ext (by show l.val / 128 = r.val; omega)
  have e2 : (⟨l.val % 128, by omega⟩ : Fin 128) = d := Fin.ext (by show l.val % 128 = d.val; omega)
  show (∑ n ∈ Finset.range (last i - w.toNat / 256), ∑ j : Fin 256, keyTerm i inv x1 x3 x4 x5 x6 x7 ⟨l.val / 128, by omega⟩ p ⟨l.val % 128, by omega⟩ (256 * (w.toNat / 256 + n) + j.val))
        * x8 (ix3 0 0 ⟨l.val % 128, by omega⟩) = _
  rw [e1, e2]

end Block

end Cert.KernelIdeal.Hand
end
-- ==== Proof.KIHost.lean ====
/-
  The array of first keys the host computes: the number of keys with an id below that of a tile's first query, so at most
  the number of keys, which meets the body's side condition.
-/
module

public import proofs.«01_k».proof.Proof.KIRun
public import proofs.«01_k».proof.Proof.KIWords
public import Idealize.ShloMosaic.Lib.IndicatorCount
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ)

/-- How many keys of batch row `b` have a segment id below that of the first query of tile `i`. -/
def startCount (ids : S5x5120.Idx → BitVec 32) (b : Fin 5) (i : Fin 40) : ℕ :=
  (Finset.univ.filter fun k : Fin 5120 =>
    IntOp.cmpi .slt (ids (ix2 b k)) (ids (ix2 b ⟨128 * i.val, by omega⟩)) = 1#1).card

theorem startCount_le (ids : S5x5120.Idx → BitVec 32) (b : Fin 5) (i : Fin 40) : startCount ids b i ≤ 5120 :=
  (Finset.card_filter_le _ _).trans (by simp)

theorem reduces_keys : S5x40x5120.Reduces [2] S5x40 := by decide

/-- The array of first keys as the host computes it. -/
theorem V_main_v16_eq (c : Dev nD) : (V m c main_v16 : S5x40.Idx → BitVec 32) =
      Host.reduce IntOp.addi (extui 32 (cmpi .slt
        (broadcastInDim S5x40x5120 ![0, 1, 2] bcast_S5x1x5120_S5x40x5120_0_1_2 (broadcastInDim S5x1x5120 ![0, 2] bcast_S5x5120_S5x1x5120_0_2 (V m c main_arg6 : S5x5120.Idx → BitVec 32)))
        (broadcastInDim S5x40x5120 ![0, 1, 2] bcast_S5x40x1_S5x40x5120_0_1_2 (broadcastInDim S5x40x1 ![0, 1] bcast_S5x40_S5x40x1_0_1
          (Host.slice S5x40 ![0, 0] ![1, 128] (V m c main_arg6 : S5x5120.Idx → BitVec 32) slicesBy_S5x5120_S5x40_0s1_0s128)))) natLt_1_32)
        (constantI S_ 32 0#32) reducesTo_S5x40x5120_S5x40_d2 h_S_ := by
  dsimp only [V, hostOps0]
  after_results
  all_goals rfl

/-- A sum of indicators along the keys is a count. -/
theorem reduce_keys (p : S5x40x5120.Idx → BitVec 1) (b : Fin 5) (i : Fin 40) :
    Host.reduce IntOp.addi (extui 32 p natLt_1_32) (constantI S_ 32 0#32) reducesTo_S5x40x5120_S5x40_d2 h_S_ (ix2 b i)
      = BitVec.ofNat 32 ((Finset.univ : Finset (Fin 5120)).filter fun k => p (ix3 b i k) = 1#1).card := by
  have hl : ∀ k : Fin 5120, reduces_keys.lift (ix2 b i) k = ix3 b i k := fun k => by
    funext a; fin_cases a <;> rfl
  refine (Host.reduce_eq_fold_single IntOp.addi (extui 32 p natLt_1_32) (constantI S_ 32 0#32) reducesTo_S5x40x5120_S5x40_d2 reduces_keys h_S_ (ix2 b i)).trans ?_
  refine Eq.trans ?_ (IndicatorCount.fold_addi_setWidth_eq_card (fun k : Fin 5120 => p (ix3 b i k)) Finset.univ)
  refine Finset.fold_congr fun k _ => ?_
  exact congrArg (fun y => (p y).setWidth 32) (hl k)

/-- The array of first keys is the array of those counts. -/
theorem V_main_v16 (c : Dev nD) (b : Fin 5) (i : Fin 40) :
    (V m c main_v16 : S5x40.Idx → BitVec 32) (ix2 b i) = BitVec.ofNat 32 (startCount (V m c main_arg6) b i) := by
  refine (congrFun (V_main_v16_eq m c) (ix2 b i)).trans ((reduce_keys _ b i).trans ?_)
  unfold startCount
  refine congrArg (fun S : Finset (Fin 5120) => BitVec.ofNat 32 S.card) (Finset.filter_congr fun k _ => ?_)
  pointwise

/-- A grid coordinate's word is the coordinate. -/
theorem word_toNat (n : ℕ) (h : n < 5120) : (BitVec.ofNat 32 n).toNat = n := by
  rw [BitVec.toNat_ofNat]; exact Nat.mod_eq_of_lt (by omega)

theorem w0 (t : Fin cfg0.N) : (BitVec.ofNat 32 (grid0.coords t 0).val).toNat = (grid0.coords t 0).val :=
  word_toNat _ (lt_of_lt_of_le (grid0.coords t 0).isLt (by decide))
theorem w1 (t : Fin cfg0.N) : (BitVec.ofNat 32 (grid0.coords t 1).val).toNat = (grid0.coords t 1).val :=
  word_toNat _ (lt_of_lt_of_le (grid0.coords t 1).isLt (by decide))
theorem w2 (t : Fin cfg0.N) : (BitVec.ofNat 32 (grid0.coords t 2).val).toNat = (grid0.coords t 2).val :=
  word_toNat _ (lt_of_lt_of_le (grid0.coords t 2).isLt (by decide))

theorem iblk0 (c : Dev nD) (t : Fin cfg0.N) (b : Fin 5) (i : Fin 40) :
    (iblk m c 0 t : S5x40.Idx → BitVec 32) (ix2 b i) = (V m c main_v16 : S5x40.Idx → BitVec 32) (ix2 b i) := by
  unfold iblk
  refine (View.read_apply _ _).trans ((cast_eq _ _).trans (congrArg (V m c main_v16) ?_))
  funext a; apply Fin.ext
  refine Pipeline.Window.rect_emb_val_of_index_zero win0_0 t a ?_ (ix2 b i)
  fin_cases a <;> rfl

/-- The word a grid point reads is the count of its batch row and tile. -/
theorem word_eq (c : Dev nD) (t : Fin cfg0.N) (b : Fin 5) (hb : b.val = (grid0.coords t 0).val) (i : Fin 40) (hi : i.val = (grid0.coords t 2).val) :
    word m c t = BitVec.ofNat 32 (startCount (V m c main_arg6) b i) := by
  have e : word m c t = (iblk m c 0 t : S5x40.Idx → BitVec 32) (ix2 b i) := by
    unfold word
    rw [View.readAt_apply, Memref.IsWhole.read_unread]
    refine congrArg (iblk m c 0 t) ?_
    funext a; apply Fin.ext
    rw [Rect.idx_unit_val]
    refine (congrArg (· + _) (congrFun (k0_off1_eq _) a)).trans ?_
    fin_cases a
    · show (grid0.coords t 0).val + 0 = b.val; omega
    · show (grid0.coords t 2).val + 0 = i.val; omega
  rw [e, iblk0, V_main_v16]

theorem word_le (c : Dev nD) (t : Fin cfg0.N) : (word m c t).toNat ≤ 5120 := by
  rw [word_eq m c t (grid0.coords t 0) rfl (grid0.coords t 2) rfl, BitVec.toNat_ofNat]
  exact (Nat.mod_le _ _).trans (startCount_le _ _ _)

/-- So the launch meets the body's side condition at every point. -/
theorem hyps : Hyps m := fun c t => chk1_of _ _ (word_le m c t)

end Cert.KernelIdeal.Hand
end
-- ==== Proof.KIBlocks.lean ====
/-
  The blocks a grid point of the ideal kernel reads, at an index, in the arguments.
-/
module

public import proofs.«01_k».proof.Proof.KIRun
public import proofs.«01_k».proof.Proof.KIWords
public import Idealize.ShloMosaic.Lib.IndicatorCount
public import Idealize.ShloMosaic.Lib.Pointwise
public import Idealize.ShloMosaic.Lib.Pipeline.ValueKit
public import proofs.«01_k».proof.Proof.KIHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (ℓ : Loc nD τ sig) → Buf (Elt Ideal) ℓ)

/-! ## The arguments -/

/-- The query codes. -/
abbrev aQ (c : Dev nD) : S5x5120x28x128.Idx → EReal := m ((c : Thread nD τ).loc main_arg0)
/-- The query heads' scales. -/
abbrev aQs (c : Dev nD) : S28.Idx → EReal := m ((c : Thread nD τ).loc main_arg1)
/-- The key codes. -/
abbrev aK (c : Dev nD) : S5x5120x4x128.Idx → EReal := m ((c : Thread nD τ).loc main_arg2)
/-- The key heads' scales. -/
abbrev aKs (c : Dev nD) : S4.Idx → EReal := m ((c : Thread nD τ).loc main_arg3)
/-- The value codes. -/
abbrev aV (c : Dev nD) : S5x5120x4x128.Idx → EReal := m ((c : Thread nD τ).loc main_arg4)
/-- The value scales. -/
abbrev aVs (c : Dev nD) : S4x128.Idx → EReal := m ((c : Thread nD τ).loc main_arg5)
/-- The segment ids. -/
abbrev aSeg (c : Dev nD) : S5x5120.Idx → BitVec 32 := m ((c : Thread nD τ).loc main_arg6)
/-- The scale of the probabilities. -/
abbrev aPs (c : Dev nD) : S_.Idx → EReal := m ((c : Thread nD τ).loc main_arg7)

/-! ## Where each window's block lies -/

theorem idx3 (t : Fin cfg0.N) : win0_3.index t = ![(grid0.coords t 0).val, (grid0.coords t 1).val, (grid0.coords t 2).val, 0] := by
  show ![(BitVec.ofNat 32 (grid0.coords t 0).val).toNat, (BitVec.ofNat 32 (grid0.coords t 1).val).toNat, (BitVec.ofNat 32 (grid0.coords t 2).val).toNat, 0] = _
  rw [w0, w1, w2]

theorem idx4 (t : Fin cfg0.N) : win0_4.index t = ![(grid0.coords t 0).val, (grid0.coords t 1).val, 0, 0] := by
  show ![(BitVec.ofNat 32 (grid0.coords t 0).val).toNat, (BitVec.ofNat 32 (grid0.coords t 1).val).toNat, 0, 0] = _
  rw [w0, w1]

theorem idx5 (t : Fin cfg0.N) : win0_5.index t = ![(grid0.coords t 0).val, (grid0.coords t 1).val, 0, 0] := by
  show ![(BitVec.ofNat 32 (grid0.coords t 0).val).toNat, (BitVec.ofNat 32 (grid0.coords t 1).val).toNat, 0, 0] = _
  rw [w0, w1]

theorem idx6 (t : Fin cfg0.N) : win0_6.index t = ![(grid0.coords t 0).val, (grid0.coords t 2).val, 0] := by
  show ![(BitVec.ofNat 32 (grid0.coords t 0).val).toNat, (BitVec.ofNat 32 (grid0.coords t 2).val).toNat, 0] = _
  rw [w0, w2]

theorem idx7 (t : Fin cfg0.N) : win0_7.index t = ![(grid0.coords t 0).val, 0, 0] := by
  show ![(BitVec.ofNat 32 (grid0.coords t 0).val).toNat, 0, 0] = _
  rw [w0]

theorem idx8 (t : Fin cfg0.N) : win0_8.index t = ![(grid0.coords t 1).val, 0, 0] := by
  show ![(BitVec.ofNat 32 (grid0.coords t 1).val).toNat, 0, 0] = _
  rw [w1]

theorem idx9 (t : Fin cfg0.N) : win0_9.index t = ![(grid0.coords t 0).val, (grid0.coords t 2).val, (grid0.coords t 1).val] := by
  show ![(BitVec.ofNat 32 (grid0.coords t 0).val).toNat, (BitVec.ofNat 32 (grid0.coords t 2).val).toNat, (BitVec.ofNat 32 (grid0.coords t 1).val).toNat] = _
  rw [w0, w1, w2]

/-! ## The arrays the host prepares -/

theorem V_main_v6 (c : Dev nD) : @Eq (S5x28x5120x128.Idx → EReal) (V m c main_v6)
    (transpose S5x28x5120x128 [0, 2, 1, 3] (aQ m c) transposes_S5x5120x28x128_S5x28x5120x128_0_2_1_3) := by
  dsimp only [V, hostOps0]
  after_results
  all_goals rfl

theorem V_main_v7 (c : Dev nD) : @Eq (S5x4x5120x128.Idx → EReal) (V m c main_v7)
    (transpose S5x4x5120x128 [0, 2, 1, 3] (aK m c) transposes_S5x5120x4x128_S5x4x5120x128_0_2_1_3) := by
  dsimp only [V, hostOps0]
  after_results
  all_goals rfl

theorem V_main_v8 (c : Dev nD) : @Eq (S5x4x5120x128.Idx → EReal) (V m c main_v8)
    (transpose S5x4x5120x128 [0, 2, 1, 3] (aV m c) transposes_S5x5120x4x128_S5x4x5120x128_0_2_1_3) := by
  dsimp only [V, hostOps0]
  after_results
  all_goals rfl

theorem V_main_v5 (c : Dev nD) : @Eq (FVec Ideal S4x7 .f32) (V m c main_v5)
    (mulf (mulf (shapeCast S4x7 (aQs m c) shapeCasts_S28_S4x7) (broadcastInDim S4x7 ![0, 1] bcast_S4x1_S4x7_0_1 (broadcastInDim S4x1 ![0] bcast_S4_S4x1_0 (aKs m c)))) (broadcastInDim S4x7 ![] bcast_S_S4x7 (constant S_ .f32 0x3DB504F3#32))) := by
  dsimp only [V, hostOps0]
  after_results
  all_goals rfl

theorem V_main_v19 (c : Dev nD) : @Eq (FVec Ideal S4x1x128 .f32) (V m c main_v19)
    (shapeCast S4x1x128 (mulf (broadcastInDim S4x128 ![] bcast_S_S4x128 (aPs m c)) (aVs m c)) shapeCasts_S4x128_S4x1x128) := by
  dsimp only [V, hostOps0]
  after_results
  all_goals rfl

theorem V_main_v21 (c : Dev nD) : @Eq (FVec Ideal S1 .f32) (V m c main_v21)
    (shapeCast S1 (Host.divf (constant S_ .f32 0x3F800000#32) (aPs m c)) shapeCasts_S_S1) := by
  dsimp only [V, hostOps0]
  after_results
  all_goals rfl

theorem V_main_v23 (c : Dev nD) : @Eq (S5x5120x128.Idx → BitVec 32) (V m c main_v23)
    (broadcastInDim S5x5120x128 ![0, 1, 2] bcast_S5x5120x1_S5x5120x128_0_1_2 (broadcastInDim S5x5120x1 ![0, 1] bcast_S5x5120_S5x5120x1_0_1 (aSeg m c))) := by
  dsimp only [V, hostOps0]
  after_results
  all_goals rfl

theorem V_main_v24 (c : Dev nD) : @Eq (S5x1x5120.Idx → BitVec 32) (V m c main_v24)
    (broadcastInDim S5x1x5120 ![0, 2] bcast_S5x5120_S5x1x5120_0_2 (aSeg m c)) := by
  dsimp only [V, hostOps0]
  after_results
  all_goals rfl

/-! ## The blocks at an index, in the arguments -/

/-- The queries of the point. -/
theorem iblk3 (c : Dev nD) (t : Fin cfg0.N) (r : Fin 7) (p e : Fin 128) (b : Fin 5) (hb : b.val = (grid0.coords t 0).val) (h : Fin 28) (hh : h.val = 7 * (grid0.coords t 1).val + r.val) (q : Fin 5120) (hq : q.val = 128 * (grid0.coords t 2).val + p.val) :
    @Eq (EReal) (iblk m c 3 t (ix4 0 r p e : S1x7x128x128.Idx)) ((aQ m c) (ix4 b q h e)) := by
  unfold iblk
  refine (View.read_apply _ _).trans ((cast_eq _ _).trans ((congrFun (V_main_v6 m c) _).trans ?_))
  have he : ((cfg0.win 3).blk t).view.emb (ix4 0 r p e) = (ix4 b h q e : S5x28x5120x128.Idx) := by
    funext a; apply Fin.ext
    refine (Pipeline.Window.rect_emb_val win0_3 t (ix4 0 r p e) a).trans ?_
    rw [idx3]
    fin_cases a
    · show (grid0.coords t 0).val * 1 + 0 = b.val; omega
    · show (grid0.coords t 1).val * 7 + r.val = h.val; omega
    · show (grid0.coords t 2).val * 128 + p.val = q.val; omega
    · show 0 * 128 + e.val = e.val; omega
  rw [he]
  pointwise

/-- The keys of the point. -/
theorem iblk4 (c : Dev nD) (t : Fin cfg0.N) (j : Fin 5120) (e : Fin 128) (b : Fin 5) (hb : b.val = (grid0.coords t 0).val) (g : Fin 4) (hg : g.val = (grid0.coords t 1).val) :
    @Eq (EReal) (iblk m c 4 t (ix4 0 0 j e : S1x1x5120x128.Idx)) ((aK m c) (ix4 b j g e)) := by
  unfold iblk
  refine (View.read_apply _ _).trans ((cast_eq _ _).trans ((congrFun (V_main_v7 m c) _).trans ?_))
  have he : ((cfg0.win 4).blk t).view.emb (ix4 0 0 j e) = (ix4 b g j e : S5x4x5120x128.Idx) := by
    funext a; apply Fin.ext
    refine (Pipeline.Window.rect_emb_val win0_4 t (ix4 0 0 j e) a).trans ?_
    rw [idx4]
    fin_cases a
    · show (grid0.coords t 0).val * 1 + 0 = b.val; omega
    · show (grid0.coords t 1).val * 1 + 0 = g.val; omega
    · show 0 * 5120 + j.val = j.val; omega
    · show 0 * 128 + e.val = e.val; omega
  rw [he]
  pointwise

/-- The values of the point. -/
theorem iblk5 (c : Dev nD) (t : Fin cfg0.N) (j : Fin 5120) (e : Fin 128) (b : Fin 5) (hb : b.val = (grid0.coords t 0).val) (g : Fin 4) (hg : g.val = (grid0.coords t 1).val) :
    @Eq (EReal) (iblk m c 5 t (ix4 0 0 j e : S1x1x5120x128.Idx)) ((aV m c) (ix4 b j g e)) := by
  unfold iblk
  refine (View.read_apply _ _).trans ((cast_eq _ _).trans ((congrFun (V_main_v8 m c) _).trans ?_))
  have he : ((cfg0.win 5).blk t).view.emb (ix4 0 0 j e) = (ix4 b g j e : S5x4x5120x128.Idx) := by
    funext a; apply Fin.ext
    refine (Pipeline.Window.rect_emb_val win0_5 t (ix4 0 0 j e) a).trans ?_
    rw [idx5]
    fin_cases a
    · show (grid0.coords t 0).val * 1 + 0 = b.val; omega
    · show (grid0.coords t 1).val * 1 + 0 = g.val; omega
    · show 0 * 5120 + j.val = j.val; omega
    · show 0 * 128 + e.val = e.val; omega
  rw [he]
  pointwise

/-- The queries' segment ids, repeated along the lanes. -/
theorem iblk6 (c : Dev nD) (t : Fin cfg0.N) (p l : Fin 128) (b : Fin 5) (hb : b.val = (grid0.coords t 0).val) (q : Fin 5120) (hq : q.val = 128 * (grid0.coords t 2).val + p.val) :
    @Eq (BitVec 32) (iblk m c 6 t (ix3 0 p l : S1x128x128.Idx)) ((aSeg m c) (ix2 b q)) := by
  unfold iblk
  refine (View.read_apply _ _).trans ((cast_eq _ _).trans ((congrFun (V_main_v23 m c) _).trans ?_))
  have he : ((cfg0.win 6).blk t).view.emb (ix3 0 p l) = (ix3 b q l : S5x5120x128.Idx) := by
    funext a; apply Fin.ext
    refine (Pipeline.Window.rect_emb_val win0_6 t (ix3 0 p l) a).trans ?_
    rw [idx6]
    fin_cases a
    · show (grid0.coords t 0).val * 1 + 0 = b.val; omega
    · show (grid0.coords t 2).val * 128 + p.val = q.val; omega
    · show 0 * 128 + l.val = l.val; omega
  rw [he]
  pointwise

/-- The keys' segment ids. -/
theorem iblk7 (c : Dev nD) (t : Fin cfg0.N) (j : Fin 5120) (b : Fin 5) (hb : b.val = (grid0.coords t 0).val) :
    @Eq (BitVec 32) (iblk m c 7 t (ix3 0 0 j : S1x1x5120.Idx)) ((aSeg m c) (ix2 b j)) := by
  unfold iblk
  refine (View.read_apply _ _).trans ((cast_eq _ _).trans ((congrFun (V_main_v24 m c) _).trans ?_))
  have he : ((cfg0.win 7).blk t).view.emb (ix3 0 0 j) = (ix3 b 0 j : S5x1x5120.Idx) := by
    funext a; apply Fin.ext
    refine (Pipeline.Window.rect_emb_val win0_7 t (ix3 0 0 j) a).trans ?_
    rw [idx7]
    fin_cases a
    · show (grid0.coords t 0).val * 1 + 0 = b.val; omega
    · show 0 * 1 + 0 = 0; omega
    · show 0 * 5120 + j.val = j.val; omega
  rw [he]
  pointwise

/-- The output scale. -/
theorem iblk8 (c : Dev nD) (t : Fin cfg0.N) (e : Fin 128) (g : Fin 4) (hg : g.val = (grid0.coords t 1).val) :
    @Eq (EReal) (iblk m c 8 t (ix3 0 0 e : S1x1x128.Idx)) ((aPs m c) ix0 * (aVs m c) (ix2 g e)) := by
  unfold iblk
  refine (View.read_apply _ _).trans ((cast_eq _ _).trans ((congrFun (V_main_v19 m c) _).trans ?_))
  have he : ((cfg0.win 8).blk t).view.emb (ix3 0 0 e) = (ix3 g 0 e : S4x1x128.Idx) := by
    funext a; apply Fin.ext
    refine (Pipeline.Window.rect_emb_val win0_8 t (ix3 0 0 e) a).trans ?_
    rw [idx8]
    fin_cases a
    · show (grid0.coords t 1).val * 1 + 0 = g.val; omega
    · show 0 * 1 + 0 = 0; omega
    · show 0 * 128 + e.val = e.val; omega
  rw [he]
  pointwise

/-- The scale of a head's scores. -/
theorem iblk1 (c : Dev nD) (t : Fin cfg0.N) (g : Fin 4) (r : Fin 7) (h : Fin 28) (hh : h.val = 7 * g.val + r.val) :
    @Eq (EReal) (iblk m c 1 t (ix2 g r : S4x7.Idx)) (((aQs m c) (ix1 h) * (aKs m c) (ix1 g)) * Ideal.ofBits .f32 0x3DB504F3#32) := by
  unfold iblk
  refine (View.read_apply _ _).trans ((cast_eq _ _).trans ((congrFun (V_main_v5 m c) _).trans ?_))
  have he : ((cfg0.win 1).blk t).view.emb (ix2 g r) = (ix2 g r : S4x7.Idx) := by
    funext a; apply Fin.ext
    refine Pipeline.Window.rect_emb_val_of_index_zero win0_1 t a ?_ (ix2 g r)
    fin_cases a <;> rfl
  rw [he]
  pointwise
  refine congrArg (fun x => aQs m c (ix1 x) * aKs m c (ix1 g) * Ideal.ofBits .f32 0x3DB504F3#32) (Fin.ext ?_)
  show g.val * 7 + r.val = h.val; omega

/-- The inverse of the scale of the probabilities. -/
theorem iblk2 (c : Dev nD) (t : Fin cfg0.N)  :
    @Eq (EReal) (iblk m c 2 t (ix1 0 : S1.Idx)) (Ideal.div 1 ((aPs m c) ix0)) := by
  unfold iblk
  refine (View.read_apply _ _).trans ((cast_eq _ _).trans ((congrFun (V_main_v21 m c) _).trans ?_))
  have he : ((cfg0.win 2).blk t).view.emb (ix1 0) = (ix1 0 : S1.Idx) := by
    funext a; apply Fin.ext
    refine Pipeline.Window.rect_emb_val_of_index_zero win0_2 t a ?_ (ix1 0)
    fin_cases a <;> rfl
  rw [he]
  pointwise

end Cert.KernelIdeal.Hand

end
-- ==== Proof.Sum.lean ====
/-
  The sum over the key blocks a tile goes through is the sum over all keys: where the segment ids are sorted along a row,
  every key of a skipped block is hidden from every query of the tile.
-/
module

public import proofs.«01_k».proof.Proof.Spec
public import Idealize.ShloMosaic.Lib.WordCmp
public import Idealize.ShloMosaic.Lib.Affine

@[expose] public section

noncomputable section

namespace Cert.Spec

open Idealize.ShloMosaic

/-- The segment ids are sorted along each row. -/
def Sorted (seg : (⟨2, ![5, 5120]⟩ : Shape).Idx → BitVec 32) : Prop :=
  ∀ (b : Fin 5) (j : ℕ) (h : j + 1 < 5120), (seg (ix2 b ⟨j, by omega⟩)).toInt ≤ (seg (ix2 b ⟨j + 1, h⟩)).toInt

/-- Sorted from key to key is sorted between any two keys. -/
theorem Sorted.mono {seg : (⟨2, ![5, 5120]⟩ : Shape).Idx → BitVec 32} (hs : Sorted seg) (b : Fin 5) (j : Fin 5120) :
    ∀ (n : ℕ) (h : j.val + n < 5120), (seg (ix2 b j)).toInt ≤ (seg (ix2 b ⟨j.val + n, h⟩)).toInt
  | 0, _ => le_refl _
  | n + 1, h => (Sorted.mono hs b j n (by omega)).trans (hs b (j.val + n) h)

/-- A key whose position is below the number of keys with a smaller id has itself a smaller id. -/
theorem Sorted.lt_of_lt_card {seg : (⟨2, ![5, 5120]⟩ : Shape).Idx → BitVec 32} (hs : Sorted seg) (b : Fin 5) (q j : Fin 5120)
    (hj : j.val < (Finset.univ.filter fun k : Fin 5120 => IntOp.cmpi .slt (seg (ix2 b k)) (seg (ix2 b q)) = 1#1).card) :
    (seg (ix2 b j)).toInt < (seg (ix2 b q)).toInt := by
  by_contra hn
  have hsub : (Finset.univ.filter fun k : Fin 5120 => IntOp.cmpi .slt (seg (ix2 b k)) (seg (ix2 b q)) = 1#1) ⊆ Finset.Iio j := by
    intro k hk
    have hk' := IntOp.cmpi_slt.mp (Finset.mem_filter.mp hk).2
    rw [Finset.mem_Iio]
    by_contra hjk
    have hle : j.val ≤ k.val := by rw [Fin.lt_def] at hjk; omega
    have hm := hs.mono b j (k.val - j.val) (by have := k.isLt; omega)
    have he : (⟨j.val + (k.val - j.val), by have := k.isLt; omega⟩ : Fin 5120) = k := Fin.ext (by show j.val + (k.val - j.val) = k.val; omega)
    rw [he] at hm
    omega
  have hc := Finset.card_le_card hsub
  rw [Fin.card_Iio] at hc
  omega

/-- A sum over whole blocks, from block `s` up to block `L`, is the sum over all positions, where every position before
    and after them adds nothing. -/
theorem sum_blocks (T : ℕ → EReal) (s L N : ℕ) (hL : 256 * L ≤ N) (hlo : ∀ j, j < 256 * s → T j = 0) (hhi : ∀ j, 256 * L ≤ j → T j = 0) :
    ∑ n ∈ Finset.range (L - s), ∑ j : Fin 256, T (256 * (s + n) + j.val) = ∑ j ∈ Finset.range N, T j := by
  have hb : ∀ M, ∑ n ∈ Finset.range M, ∑ j : Fin 256, T (256 * (s + n) + j.val) = ∑ x ∈ Finset.range (256 * M), T (256 * s + x) := by
    intro M
    induction M with
    | zero => simp
    | succ M ih =>
      rw [Finset.sum_range_succ, ih, show 256 * (M + 1) = 256 * M + 256 by ring, Finset.sum_range_add, Fin.sum_univ_eq_sum_range (fun x => T (256 * (s + M) + x))]
      refine congrArg _ (Finset.sum_congr rfl fun x _ => congrArg T (by ring))
  rw [hb]
  by_cases h : s ≤ L
  · have e : N = 256 * s + 256 * (L - s) + (N - 256 * L) := by omega
    rw [e, Finset.sum_range_add, Finset.sum_range_add, Finset.sum_eq_zero (s := Finset.range (256 * s)) fun x hx => hlo x (Finset.mem_range.mp hx),
      Finset.sum_eq_zero (s := Finset.range (N - 256 * L)) fun x _ => hhi _ (by omega), zero_add, add_zero]
  · rw [show L - s = 0 by omega, Finset.sum_eq_zero (s := Finset.range N) fun x _ => ?_]
    · simp
    · by_cases hx : x < 256 * s
      · exact hlo x hx
      · exact hhi x (by omega)

/-- A key later than the query adds nothing. -/
theorem term_late (A : Args) (b : Fin 5) (t : Fin 5120) (h : Fin 28) (g : Fin 4) (d : Fin 128) (j : Fin 5120) (hj : t.val < j.val) :
    term A b t h g d j = 0 := by
  have e : visible A b t j = 0#1 := by
    unfold visible
    have e0 : IntOp.cmpi .sle (BitVec.ofNat 32 j.val) (BitVec.ofNat 32 t.val) = 0#1 :=
      (WordCmp.cmpi_sle_ofNat_eq_zero_iff (w := 32) (lt_trans j.isLt (by decide)) (lt_trans t.isLt (by decide))).mpr (not_le.mpr hj)
    rw [e0]
    exact BitVec.zero_and
  unfold term
  rw [e, code_hidden, zero_mul]

/-- A key of another segment adds nothing. -/
theorem term_other (A : Args) (b : Fin 5) (t : Fin 5120) (h : Fin 28) (g : Fin 4) (d : Fin 128) (j : Fin 5120) (hj : A.seg (ix2 b j) ≠ A.seg (ix2 b t)) :
    term A b t h g d j = 0 := by
  have e : visible A b t j = 0#1 := by
    unfold visible
    rw [show IntOp.cmpi .eq (A.seg (ix2 b j)) (A.seg (ix2 b t)) = 0#1 from (BitVec.eq_zero_or_eq_one _).resolve_right fun e => hj (IntOp.cmpi_eq.mp e)]
    exact BitVec.and_zero
  unfold term
  rw [e, code_hidden, zero_mul]

end Cert.Spec
end
-- ==== Proof.KIValue.lean ====
/-
  The array the kernel leaves, where the segment ids are sorted: each block is the sum over every key, and the blocks
  cover the array.
-/
module

public import proofs.«01_k».proof.Proof.KIBody
public import proofs.«01_k».proof.Proof.KIBlocks
public import proofs.«01_k».proof.Proof.Sum
public import Idealize.ShloMosaic.Lib.Pipeline.Covers

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Spec

variable (m : (ℓ : Loc nD τ sig) → Buf (Elt Ideal) ℓ)

/-- The kernel's arguments. -/
def args (c : Dev nD) : Args := ⟨aQ m c, aQs m c, aK m c, aKs m c, aV m c, aVs m c, aSeg m c, aPs m c⟩

/-- A key's contribution, read off the blocks of the point, is its contribution read off the arguments. -/
theorem keyTerm_eq (c : Dev nD) (t : Fin cfg0.N) (b : Fin 5) (hb : b.val = (grid0.coords t 0).val) (g : Fin 4) (hg : g.val = (grid0.coords t 1).val)
    (r : Fin 7) (p d : Fin 128) (h : Fin 28) (hh : h.val = 7 * (grid0.coords t 1).val + r.val) (q : Fin 5120) (hq : q.val = 128 * (grid0.coords t 2).val + p.val)
    (j : Fin 5120) :
    keyTerm (grid0.coords t) (Ideal.div 1 (aPs m c ix0)) (iblk m c 1 t) (iblk m c 3 t) (iblk m c 4 t) (iblk m c 5 t) (iblk m c 6 t) (iblk m c 7 t) r p d j.val
      = term (args m c) b q h g d j := by
  unfold keyTerm
  rw [dif_pos j.isLt]
  have e3 := fun e => iblk3 m c t r p e b hb h hh q hq
  have e4 := fun e => iblk4 m c t j e b hb g hg
  have eg : gOf (grid0.coords t) = g := Fin.ext hg.symm
  have e1 := iblk1 m c t g r h (by rw [hg]; exact hh)
  have e6 := iblk6 m c t p 0 b hb q hq
  have e7 := iblk7 m c t j b hb
  rw [eg]
  refine congrArg₂ (· * ·) (congr (congrArg (fun f => f (Ideal.div 1 (aPs m c ix0))) (congr (congrArg code (Finset.sum_congr rfl fun e _ => congrArg₂ (fun x y : EReal => x * y) (e3 e) (e4 e))) e1)) ?_) (iblk5 m c t j d b hb g hg)
  show _ = visible (args m c) b q j
  unfold visible
  rw [hq]
  exact congrArg₂ IntOp.andi rfl (congrArg₂ (IntOp.cmpi .eq) e7 e6)

/-- A position past the keys adds nothing. -/
theorem keyTerm_past (i : grid0.Coords) (inv : EReal) (x1 : FVec Ideal S4x7 .f32) (x3 : FVec Ideal S1x7x128x128 .fp8e4m3) (x4 x5 : FVec Ideal S1x1x5120x128 .fp8e4m3)
    (x6 : IVec S1x128x128 32) (x7 : IVec S1x1x5120 32) (r : Fin 7) (p d : Fin 128) (j : Nat) (hj : ¬ j < 5120) :
    keyTerm i inv x1 x3 x4 x5 x6 x7 r p d j = 0 := by
  unfold keyTerm
  rw [dif_neg hj]

/-- What a point leaves in its block: the sum over every key. -/
theorem block_eq (c : Dev nD) (hs : Sorted (aSeg m c)) (t : Fin cfg0.N) (b : Fin 5) (hb : b.val = (grid0.coords t 0).val) (g : Fin 4) (hg : g.val = (grid0.coords t 1).val)
    (r : Fin 7) (p d : Fin 128) (h : Fin 28) (hh : h.val = 7 * (grid0.coords t 1).val + r.val) (q : Fin 5120) (hq : q.val = 128 * (grid0.coords t 2).val + p.val)
    (l : Fin 896) (hl : l.val = 128 * r.val + d.val) :
    @Eq EReal (outsAt0 m (hyps m) c t (ix3 0 p l)) (out (args m c) b q h g d) := by
  have hi : (grid0.coords t 2).val < 40 := i2_lt _
  have hp := p.isLt
  unfold outsAt0
  refine (blockOut_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (hyps m c t)
    (word m c t) rfl (word_le m c t) (Ideal.div 1 (aPs m c ix0)) (iblk2 m c t) r p d l hl).trans ?_
  refine congrArg₂ (· * ·) ?_ (iblk8 m c t d g hg)
  have ew : (word m c t).toNat = startCount (aSeg m c) b ⟨(grid0.coords t 2).val, hi⟩ := by
    rw [word_eq m c t b hb ⟨(grid0.coords t 2).val, hi⟩ rfl, V_main_arg6, BitVec.toNat_ofNat]
    exact Nat.mod_eq_of_lt (lt_of_le_of_lt (startCount_le _ _ _) (by decide))
  have hlast : last (grid0.coords t) = ((grid0.coords t 2).val * 128 + 383) / 256 := rfl
  refine (sum_blocks (keyTerm (grid0.coords t) (Ideal.div 1 (aPs m c ix0)) (iblk m c 1 t) (iblk m c 3 t) (iblk m c 4 t) (iblk m c 5 t) (iblk m c 6 t) (iblk m c 7 t) r p d)
    ((word m c t).toNat / 256) (last (grid0.coords t)) 5120 (by omega) (fun j hj => ?_) (fun j hj => ?_)).trans ?_
  · by_cases hj' : j < 5120
    · refine (keyTerm_eq m c t b hb g hg r p d h hh q hq ⟨j, hj'⟩).trans (term_other _ _ _ _ _ _ _ ?_)
      have hlt := hs.lt_of_lt_card b ⟨128 * (grid0.coords t 2).val, by omega⟩ ⟨j, hj'⟩ (by
        show j < startCount (aSeg m c) b ⟨(grid0.coords t 2).val, hi⟩
        omega)
      have hm := hs.mono b ⟨128 * (grid0.coords t 2).val, by omega⟩ p.val (by show 128 * (grid0.coords t 2).val + p.val < 5120; omega)
      have eq' : (⟨128 * (grid0.coords t 2).val + p.val, by omega⟩ : Fin 5120) = q := Fin.ext hq.symm
      intro e
      change aSeg m c (ix2 b ⟨j, hj'⟩) = aSeg m c (ix2 b q) at e
      rw [e, ← eq'] at hlt
      exact absurd hm (not_le.mpr hlt)
    · exact keyTerm_past _ _ _ _ _ _ _ _ _ _ _ _ hj'
  · by_cases hj' : j < 5120
    · exact (keyTerm_eq m c t b hb g hg r p d h hh q hq ⟨j, hj'⟩).trans (term_late _ _ _ _ _ _ _ (by show q.val < j; omega))
    · exact keyTerm_past _ _ _ _ _ _ _ _ _ _ _ _ hj'
  · rw [Finset.sum_range]
    exact Finset.sum_congr rfl fun j _ => keyTerm_eq m c t b hb g hg r p d h hh q hq j

/-- The array the kernel leaves: the sum over every key. -/
def result (c : Dev nD) : S5x5120x3584.Idx → EReal := fun y => out (args m c) (y 0) (y 1) (head (y 2)) (kvHead (y 2)) (lane (y 2))

/-- The output's blocks cover its array. -/
theorem covers9 : (cfg0.win 9).Covers :=
  (cfg0.win 9).covers_of_indexMap_surj rfl (by decide) fun β => by
    have h0 : (β 0).val < 5 := (β 0).isLt
    have h1 : (β 1).val < 40 := (β 1).isLt
    have h2 : (β 2).val < 4 := (β 2).isLt
    refine ⟨fun a => match a with
      | ⟨0, _⟩ => ⟨(β 0).val, h0⟩
      | ⟨1, _⟩ => ⟨(β 2).val, h2⟩
      | ⟨2, _⟩ => ⟨(β 1).val, h1⟩, fun a => ?_⟩
    fin_cases a
    · exact word_toNat (β 0).val (by omega)
    · exact word_toNat (β 1).val (by omega)
    · exact word_toNat (β 2).val (by omega)

/-- The array after the kernel's run. -/
theorem arr_eq (c : Dev nD) (hs : Sorted (aSeg m c)) : (dats m (hyps m) 0 c).arrAt 9 cfg0.N = result m c := by
  refine (dats m (hyps m) 0 c).arrAt_eq_of_covers 9 _ covers9 fun t hf y => ?_
  blk_simp
  rw [after0_9]
  have hy0 : (y 0).val < 1 := (y 0).isLt
  have hy1 : (y 1).val < 128 := (y 1).isLt
  have hy2 : (y 2).val < 896 := (y 2).isLt
  have hi0 : (grid0.coords t 0).val < 5 := (grid0.coords t 0).isLt
  have hi1 : (grid0.coords t 1).val < 4 := (grid0.coords t 1).isLt
  have hi2 : (grid0.coords t 2).val < 40 := i2_lt _
  have hy : (y : S1x128x896.Idx) = ix3 0 ⟨(y 1).val, hy1⟩ ⟨(y 2).val, hy2⟩ := by
    funext a; fin_cases a
    · exact Fin.ext (by show (y 0).val = 0; omega)
    · rfl
    · rfl
  have he : (win0_9.blk t).view.emb y = (ix3 ⟨(grid0.coords t 0).val, hi0⟩ ⟨128 * (grid0.coords t 2).val + (y 1).val, by omega⟩ ⟨896 * (grid0.coords t 1).val + (y 2).val, by omega⟩ : S5x5120x3584.Idx) := by
    funext a; apply Fin.ext
    refine (Pipeline.Window.rect_emb_val win0_9 t y a).trans ?_
    rw [idx9]
    fin_cases a
    · show (grid0.coords t 0).val * 1 + (y 0).val = (grid0.coords t 0).val; omega
    · show (grid0.coords t 2).val * 128 + (y 1).val = 128 * (grid0.coords t 2).val + (y 1).val; omega
    · show (grid0.coords t 1).val * 896 + (y 2).val = 896 * (grid0.coords t 1).val + (y 2).val; omega
  rw [he]
  refine (congrArg _ hy).trans (block_eq m c hs t _ rfl _ ?_ ⟨(y 2).val / 128, by omega⟩ _ _ _ ?_ _ rfl _ ?_)
  · show (896 * (grid0.coords t 1).val + (y 2).val) / 128 / 7 = _; omega
  · show (896 * (grid0.coords t 1).val + (y 2).val) / 128 = 7 * _ + (y 2).val / 128; omega
  · show (y 2).val = 128 * ((y 2).val / 128) + (896 * (grid0.coords t 1).val + (y 2).val) % 128; omega

variable (ρ : Dev nD → PrngReg)

/-- The run, with the array it leaves and the arguments unchanged. -/
theorem run_result (hs : ∀ c : Dev nD, Sorted (aSeg m c)) : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 9).trans (arr_eq m c (hs c)), h.2 c⟩)
    (θ_run_and (run_main m ρ (hyps m)) (unchanged m ρ (hyps m)))

end Cert.KernelIdeal.Hand

end
-- ==== Proof.RefBlocks.lean ====
/-
  The blocks the reference reads, at an index, in the arguments.
-/
module

public import proofs.«01_k».proof.Proof.Gen.ReferenceIdeal.Value
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen

variable (m : (ℓ : Loc nD τ sig) → Buf (Elt Ideal) ℓ)

/-! ## The arguments -/

/-- The query codes. -/
abbrev aQ (c : Dev nD) : S5x5120x28x128.Idx → EReal := m ((c : Thread nD τ).loc main_arg0)
/-- The query heads' scales. -/
abbrev aQs (c : Dev nD) : S28.Idx → EReal := m ((c : Thread nD τ).loc main_arg1)
/-- The key codes. -/
abbrev aK (c : Dev nD) : S5x5120x4x128.Idx → EReal := m ((c : Thread nD τ).loc main_arg2)
/-- The key heads' scales. -/
abbrev aKs (c : Dev nD) : S4.Idx → EReal := m ((c : Thread nD τ).loc main_arg3)
/-- The value codes. -/
abbrev aV (c : Dev nD) : S5x5120x4x128.Idx → EReal := m ((c : Thread nD τ).loc main_arg4)
/-- The value scales. -/
abbrev aVs (c : Dev nD) : S4x128.Idx → EReal := m ((c : Thread nD τ).loc main_arg5)
/-- The segment ids. -/
abbrev aSeg (c : Dev nD) : S5x5120.Idx → BitVec 32 := m ((c : Thread nD τ).loc main_arg6)
/-- The scale of the probabilities. -/
abbrev aPs (c : Dev nD) : S_.Idx → EReal := m ((c : Thread nD τ).loc main_arg7)

/-! ## The arrays the host prepares -/

theorem V_main_v15 (c : Dev nD) : @Eq (FVec Ideal S20x35840x128 .fp8e4m3) (V m c main_v15)
    (shapeCast S20x35840x128 (transpose S5x28x5120x128 [0, 2, 1, 3] (aQ m c) transposes_S5x5120x28x128_S5x28x5120x128_0_2_1_3) shapeCasts_S5x28x5120x128_S20x35840x128) := by
  dsimp only [V, hostOps0]
  after_results
  all_goals rfl

theorem V_main_v17 (c : Dev nD) : @Eq (FVec Ideal S20x5120x128 .fp8e4m3) (V m c main_v17)
    (shapeCast S20x5120x128 (transpose S5x4x5120x128 [0, 2, 1, 3] (aK m c) transposes_S5x5120x4x128_S5x4x5120x128_0_2_1_3) shapeCasts_S5x4x5120x128_S20x5120x128) := by
  dsimp only [V, hostOps0]
  after_results
  all_goals rfl

theorem V_main_v19 (c : Dev nD) : @Eq (FVec Ideal S20x5120x128 .fp8e4m3) (V m c main_v19)
    (shapeCast S20x5120x128 (transpose S5x4x5120x128 [0, 2, 1, 3] (aV m c) transposes_S5x5120x4x128_S5x4x5120x128_0_2_1_3) shapeCasts_S5x4x5120x128_S20x5120x128) := by
  dsimp only [V, hostOps0]
  after_results
  all_goals rfl

theorem V_main_v20 (c : Dev nD) : @Eq (FVec Ideal S20x35840x1 .f32) (V m c main_v20)
    (shapeCast S20x35840x1 (broadcastInDim S5x4x7x5120 ![0, 1, 2, 3] bcast_S1x4x7x1_S5x4x7x5120_0_1_2_3 (broadcastInDim S1x4x7x1 ![1, 2] bcast_S4x7_S1x4x7x1_1_2 (mulf (mulf (shapeCast S4x7 (aQs m c) shapeCasts_S28_S4x7) (broadcastInDim S4x7 ![0, 1] bcast_S4x1_S4x7_0_1 (broadcastInDim S4x1 ![0] bcast_S4_S4x1_0 (aKs m c)))) (broadcastInDim S4x7 ![] bcast_S_S4x7 (constant S_ .f32 0x3DB504F3#32))))) shapeCasts_S5x4x7x5120_S20x35840x1) := by
  dsimp only [V, hostOps0]
  after_results
  all_goals rfl

theorem V_main_v21 (c : Dev nD) : @Eq (IVec S20x35840x1 32) (V m c main_v21)
    (shapeCast S20x35840x1 (broadcastInDim S5x4x7x5120 ![0, 1, 2, 3] bcast_S5x1x1x5120_S5x4x7x5120_0_1_2_3 (broadcastInDim S5x1x1x5120 ![0, 3] bcast_S5x5120_S5x1x1x5120_0_3 (aSeg m c))) shapeCasts_S5x4x7x5120_S20x35840x1) := by
  dsimp only [V, hostOps0]
  after_results
  all_goals rfl

theorem V_main_v22 (c : Dev nD) : @Eq (IVec S20x1x5120 32) (V m c main_v22)
    (shapeCast S20x1x5120 (broadcastInDim S5x4x5120 ![0, 1, 2] bcast_S5x1x5120_S5x4x5120_0_1_2 (broadcastInDim S5x1x5120 ![0, 2] bcast_S5x5120_S5x1x5120_0_2 (aSeg m c))) shapeCasts_S5x4x5120_S20x1x5120) := by
  dsimp only [V, hostOps0]
  after_results
  all_goals rfl

theorem V_main_v23 (c : Dev nD) : @Eq (FVec Ideal S20x1x128 .f32) (V m c main_v23)
    (shapeCast S20x1x128 (broadcastInDim S5x4x128 ![0, 1, 2] bcast_S1x4x128_S5x4x128_0_1_2 (broadcastInDim S1x4x128 ![1, 2] bcast_S4x128_S1x4x128_1_2 (aVs m c))) shapeCasts_S5x4x128_S20x1x128) := by
  dsimp only [V, hostOps0]
  after_results
  all_goals rfl

theorem V_main_v24 (c : Dev nD) : @Eq (FVec Ideal S1x1x1 .f32) (V m c main_v24)
    (shapeCast S1x1x1 (aPs m c) shapeCasts_S_S1x1x1) := by
  dsimp only [V, hostOps0]
  after_results
  all_goals rfl

/-! ## The blocks at an index, in the arguments: row `n` is batch row `b`'s key head `g`, and its row `x` the query
`t` of the head's `r`-th query head -/

/-- The queries. -/
theorem iblk0 (c : Dev nD) (u : Fin cfg0.N) (b : Fin 5) (g : Fin 4) (n : Fin 20) (hn : n.val = 4 * b.val + g.val) (r : Fin 7) (t : Fin 5120) (x : Fin 35840) (hx : x.val = 5120 * r.val + t.val) (h : Fin 28) (hh : h.val = 7 * g.val + r.val) (e : Fin 128) :
    @Eq (EReal) (iblk m c 0 u (ix3 n x e : S20x35840x128.Idx)) (aQ m c (ix4 b t h e)) := by
  unfold iblk
  refine (View.read_apply _ _).trans ((cast_eq _ _).trans ((congrFun (V_main_v15 m c) _).trans ?_))
  have he : ((cfg0.win 0).blk u).view.emb (ix3 n x e) = (ix3 n x e : S20x35840x128.Idx) := by
    funext a; apply Fin.ext
    refine Pipeline.Window.rect_emb_val_of_index_zero win0_0 u a ?_ (ix3 n x e)
    fin_cases a <;> rfl
  rw [he]
  pointwise
  have eb : n.val / 4 = b.val := by omega
  have et : x.val % 5120 = t.val := by omega
  have eh : n.val % 4 * 7 + x.val / 5120 = h.val := by omega
  simp only [eb, et, eh, Fin.eta]

/-- The keys. -/
theorem iblk1 (c : Dev nD) (u : Fin cfg0.N) (b : Fin 5) (g : Fin 4) (n : Fin 20) (hn : n.val = 4 * b.val + g.val) (j : Fin 5120) (e : Fin 128) :
    @Eq (EReal) (iblk m c 1 u (ix3 n j e : S20x5120x128.Idx)) (aK m c (ix4 b j g e)) := by
  unfold iblk
  refine (View.read_apply _ _).trans ((cast_eq _ _).trans ((congrFun (V_main_v17 m c) _).trans ?_))
  have he : ((cfg0.win 1).blk u).view.emb (ix3 n j e) = (ix3 n j e : S20x5120x128.Idx) := by
    funext a; apply Fin.ext
    refine Pipeline.Window.rect_emb_val_of_index_zero win0_1 u a ?_ (ix3 n j e)
    fin_cases a <;> rfl
  rw [he]
  pointwise
  have eb : n.val / 4 = b.val := by omega
  have eg : n.val % 4 = g.val := by omega
  simp only [eb, eg, Fin.eta]

/-- The values. -/
theorem iblk2 (c : Dev nD) (u : Fin cfg0.N) (b : Fin 5) (g : Fin 4) (n : Fin 20) (hn : n.val = 4 * b.val + g.val) (j : Fin 5120) (e : Fin 128) :
    @Eq (EReal) (iblk m c 2 u (ix3 n j e : S20x5120x128.Idx)) (aV m c (ix4 b j g e)) := by
  unfold iblk
  refine (View.read_apply _ _).trans ((cast_eq _ _).trans ((congrFun (V_main_v19 m c) _).trans ?_))
  have he : ((cfg0.win 2).blk u).view.emb (ix3 n j e) = (ix3 n j e : S20x5120x128.Idx) := by
    funext a; apply Fin.ext
    refine Pipeline.Window.rect_emb_val_of_index_zero win0_2 u a ?_ (ix3 n j e)
    fin_cases a <;> rfl
  rw [he]
  pointwise
  have eb : n.val / 4 = b.val := by omega
  have eg : n.val % 4 = g.val := by omega
  simp only [eb, eg, Fin.eta]

/-- The scales of the scores. -/
theorem iblk3 (c : Dev nD) (u : Fin cfg0.N) (b : Fin 5) (g : Fin 4) (n : Fin 20) (hn : n.val = 4 * b.val + g.val) (r : Fin 7) (t : Fin 5120) (x : Fin 35840) (hx : x.val = 5120 * r.val + t.val) (h : Fin 28) (hh : h.val = 7 * g.val + r.val) :
    @Eq (EReal) (iblk m c 3 u (ix3 n x 0 : S20x35840x1.Idx)) (aQs m c (ix1 h) * aKs m c (ix1 g) * Ideal.ofBits .f32 0x3DB504F3#32) := by
  unfold iblk
  refine (View.read_apply _ _).trans ((cast_eq _ _).trans ((congrFun (V_main_v20 m c) _).trans ?_))
  have he : ((cfg0.win 3).blk u).view.emb (ix3 n x 0) = (ix3 n x 0 : S20x35840x1.Idx) := by
    funext a; apply Fin.ext
    refine Pipeline.Window.rect_emb_val_of_index_zero win0_3 u a ?_ (ix3 n x 0)
    fin_cases a <;> rfl
  rw [he]
  pointwise
  have eg : n.val % 4 = g.val := by omega
  have eh : g.val * 7 + x.val / 5120 = h.val := by omega
  simp only [eh, eg, Fin.eta]

/-- The queries' segment ids. -/
theorem iblk4 (c : Dev nD) (u : Fin cfg0.N) (b : Fin 5) (g : Fin 4) (n : Fin 20) (hn : n.val = 4 * b.val + g.val) (r : Fin 7) (t : Fin 5120) (x : Fin 35840) (hx : x.val = 5120 * r.val + t.val) (h : Fin 28) (hh : h.val = 7 * g.val + r.val) :
    @Eq (BitVec 32) (iblk m c 4 u (ix3 n x 0 : S20x35840x1.Idx)) (aSeg m c (ix2 b t)) := by
  unfold iblk
  refine (View.read_apply _ _).trans ((cast_eq _ _).trans ((congrFun (V_main_v21 m c) _).trans ?_))
  have he : ((cfg0.win 4).blk u).view.emb (ix3 n x 0) = (ix3 n x 0 : S20x35840x1.Idx) := by
    funext a; apply Fin.ext
    refine Pipeline.Window.rect_emb_val_of_index_zero win0_4 u a ?_ (ix3 n x 0)
    fin_cases a <;> rfl
  rw [he]
  pointwise
  have eb : n.val / 4 = b.val := by omega
  have et : x.val % 5120 = t.val := by omega
  simp only [eb, et, Fin.eta]

/-- The keys' segment ids. -/
theorem iblk5 (c : Dev nD) (u : Fin cfg0.N) (b : Fin 5) (g : Fin 4) (n : Fin 20) (hn : n.val = 4 * b.val + g.val) (j : Fin 5120) :
    @Eq (BitVec 32) (iblk m c 5 u (ix3 n 0 j : S20x1x5120.Idx)) (aSeg m c (ix2 b j)) := by
  unfold iblk
  refine (View.read_apply _ _).trans ((cast_eq _ _).trans ((congrFun (V_main_v22 m c) _).trans ?_))
  have he : ((cfg0.win 5).blk u).view.emb (ix3 n 0 j) = (ix3 n 0 j : S20x1x5120.Idx) := by
    funext a; apply Fin.ext
    refine Pipeline.Window.rect_emb_val_of_index_zero win0_5 u a ?_ (ix3 n 0 j)
    fin_cases a <;> rfl
  rw [he]
  pointwise
  have eb : n.val / 4 = b.val := by omega
  simp only [eb, Fin.eta]

/-- The values' scales. -/
theorem iblk6 (c : Dev nD) (u : Fin cfg0.N) (b : Fin 5) (g : Fin 4) (n : Fin 20) (hn : n.val = 4 * b.val + g.val) (e : Fin 128) :
    @Eq (EReal) (iblk m c 6 u (ix3 n 0 e : S20x1x128.Idx)) (aVs m c (ix2 g e)) := by
  unfold iblk
  refine (View.read_apply _ _).trans ((cast_eq _ _).trans ((congrFun (V_main_v23 m c) _).trans ?_))
  have he : ((cfg0.win 6).blk u).view.emb (ix3 n 0 e) = (ix3 n 0 e : S20x1x128.Idx) := by
    funext a; apply Fin.ext
    refine Pipeline.Window.rect_emb_val_of_index_zero win0_6 u a ?_ (ix3 n 0 e)
    fin_cases a <;> rfl
  rw [he]
  pointwise
  have eg : n.val % 4 = g.val := by omega
  simp only [eg, Fin.eta]

/-- The probabilities' scale. -/
theorem iblk7 (c : Dev nD) (u : Fin cfg0.N)  :
    @Eq (EReal) (iblk m c 7 u (ix3 0 0 0 : S1x1x1.Idx)) (aPs m c ix0) := by
  unfold iblk
  refine (View.read_apply _ _).trans ((cast_eq _ _).trans ((congrFun (V_main_v24 m c) _).trans ?_))
  have he : ((cfg0.win 7).blk u).view.emb (ix3 0 0 0) = (ix3 0 0 0 : S1x1x1.Idx) := by
    funext a; apply Fin.ext
    refine Pipeline.Window.rect_emb_val_of_index_zero win0_7 u a ?_ (ix3 0 0 0)
    fin_cases a <;> rfl
  rw [he]
  pointwise

end Cert.ReferenceIdeal.Hand

end
-- ==== Proof.RefValue.lean ====
/-
  The array the reference leaves: every entry is the sum over every key.
-/
module

public import proofs.«01_k».proof.Proof.RefBlocks

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.Spec

variable (m : (ℓ : Loc nD τ sig) → Buf (Elt Ideal) ℓ)

/-- The launch's arguments. -/
def args (c : Dev nD) : Args := ⟨aQ m c, aQs m c, aK m c, aKs m c, aV m c, aVs m c, aSeg m c, aPs m c⟩

/-- The code's arithmetic, entry by entry. -/
theorem code_apply {S : Shape} (mm sc inv : FVec Ideal S .f32) (vis : IVec S 1) (y : S.Idx) :
    minimumf (broadcast S (Scalar.ofBits .f32 0x43E00000#32 : Ideal .f32)) (maximumf (broadcast S (Scalar.ofBits .f32 0x00000000#32 : Ideal .f32))
      (mulf (select vis (logistic (addf (mulf mm sc) (broadcast S (Scalar.ofBits .f32 0xC108A791#32 : Ideal .f32)))) (broadcast S (Scalar.ofBits .f32 0x00000000#32 : Ideal .f32))) inv)) y
      = code (mm y) (sc y) (inv y) (vis y) := by
  unfold code
  pointwise

/-- The query index of a row of scores: the rows of one key head are its seven query heads, one after the other. -/
theorem rowIota_apply (n : Fin 20) (x : Fin 35840) (j : Fin 5120) :
    shapeCast S20x35840x5120 (iota .tc S20x7x5120x5120 32 [2] iota_S20x7x5120x5120_d2_w32) shapeCasts_S20x7x5120x5120_S20x35840x5120 (ix3 n x j)
      = BitVec.ofNat 32 (x.val % 5120) := by
  pointwise

/-- The key index of a column of scores. -/
theorem colIota_apply (n : Fin 20) (x : Fin 35840) (j : Fin 5120) :
    iota .tc S20x35840x5120 32 [2] iota_S20x35840x5120_d2_w32 (ix3 n x j) = BitVec.ofNat 32 j.val := by
  pointwise

/-- A score. -/
theorem score_apply (q : FVec Ideal S20x35840x128 .fp8e4m3) (k : FVec Ideal S20x5120x128 .fp8e4m3) (n : Fin 20) (x : Fin 35840) (j : Fin 5120) :
    matmul (F := Ideal) dot_S20x35840x128_S20x5120x128_S20x35840x5120_2_2_1_1_0_0 none (shapeCast S20x35840x128 q shapeCasts_S20x35840x128_S20x35840x128)
      (shapeCast S20x5120x128 k shapeCasts_S20x5120x128_S20x5120x128) (constant S20x35840x5120 .f32 0x00000000#32) (ix3 n x j)
      = ∑ e : Fin 128, q (ix3 n x e) * k (ix3 n j e) := by
  pointwise

/-- A column of per-row numbers, spread over the scores. -/
theorem perRow_apply {α : EltTy} (v : Vec Ideal S20x35840x1 α) (n : Fin 20) (x : Fin 35840) (j : Fin 5120) :
    broadcastTo S20x35840x5120 (shapeCast S20x35840x1 v shapeCasts_S20x35840x1_S20x35840x1) broadcasts_S20x35840x1_S20x35840x5120 (ix3 n x j)
      = v (ix3 n x 0) := by
  pointwise

/-- A row of per-key numbers, spread over the scores. -/
theorem perKey_apply (v : IVec S20x1x5120 32) (n : Fin 20) (x : Fin 35840) (j : Fin 5120) :
    broadcastTo S20x35840x5120 (shapeCast S20x1x5120 v shapeCasts_S20x1x5120_S20x1x5120) broadcasts_S20x1x5120_S20x35840x5120 (ix3 n x j)
      = v (ix3 n 0 j) := by
  pointwise

/-- The inverse of the probabilities' scale, spread over the scores. -/
theorem inv_apply (ps : FVec Ideal S1x1x1 .f32) (n : Fin 20) (x : Fin 35840) (j : Fin 5120) :
    broadcastTo S20x35840x5120 (divf (broadcast S1x1x1 (Scalar.ofBits .f32 0x3F800000#32 : Ideal .f32)) (k0_pay2 ps)) broadcasts_S1x1x1_S20x35840x5120 (ix3 n x j)
      = Ideal.div 1 (ps (ix3 0 0 0)) := by
  unfold_payloads
  pointwise

/-- The codes the reference computes, at an index. -/
theorem pay3_apply (q : FVec Ideal S20x35840x128 .fp8e4m3) (k : FVec Ideal S20x5120x128 .fp8e4m3) (qk : FVec Ideal S20x35840x1 .f32)
   (sk : IVec S20x1x5120 32) (sq : IVec S20x35840x1 32) (ps : FVec Ideal S1x1x1 .f32) (n : Fin 20) (x : Fin 35840) (j : Fin 5120) :
   k0_pay3 (F := Ideal) q k qk sk sq ps (ix3 n x j) =
     code (∑ e : Fin 128, q (ix3 n x e) * k (ix3 n j e)) (qk (ix3 n x 0)) (Ideal.div 1 (ps (ix3 0 0 0)))
      (IntOp.andi (IntOp.cmpi .sle (BitVec.ofNat 32 j.val) (BitVec.ofNat 32 (x.val % 5120))) (IntOp.cmpi .eq (sk (ix3 n 0 j)) (sq (ix3 n x 0)))) := by
  unfold k0_pay3
  refine (code_apply _ _ _ _ _).trans ?_
  have hm := score_apply q k n x j
  have hq := perRow_apply (α := .f32) qk n x j
  have hs := perRow_apply (α := .i32) sq n x j
  have hk := perKey_apply sk n x j
  have hi := inv_apply ps n x j
  refine congr (congr (congr (congrArg code hm) hq) hi) ?_
  exact congrArg₂ IntOp.andi (congrArg₂ (IntOp.cmpi .sle) (colIota_apply n x j) (rowIota_apply n x j)) (congrArg₂ (IntOp.cmpi .eq) hk hs)

/-- The result it computes of them, at an index. -/
theorem pay1_apply (ps : FVec Ideal S1x1x1 .f32) (z : FVec Ideal S20x35840x5120 .f32) (v : FVec Ideal S20x5120x128 .fp8e4m3) (vs : FVec Ideal S20x1x128 .f32)
   (b : Fin 5) (t : Fin 5120) (c : Fin 3584) (n : Fin 20) (hn : n.val = 4 * b.val + (kvHead c).val) (x : Fin 35840) (hx : x.val = 5120 * ((head c).val % 7) + t.val) :
   k0_pay1 ps z v vs (ix3 b t c) =
     (∑ j : Fin 5120, z (ix3 n x j) * v (ix3 n j (lane c))) * (ps (ix3 0 0 0) * vs (ix3 n 0 (lane c))) := by
  unfold_payloads
  pointwise
  have hn' : b.val * 4 + c.val / 128 / 7 = n.val := by rw [hn]; show _ = 4 * b.val + c.val / 128 / 7; omega
  have hx' : c.val / 128 % 7 * 5120 + t.val = x.val := by rw [hx]; show _ = 5120 * (c.val / 128 % 7) + _; omega
  simp only [hn', hx', Fin.eta]
  rfl

/-- The array the reference leaves: the sum over every key. -/
def result (c : Dev nD) : S5x5120x3584.Idx → EReal := fun y => out (args m c) (y 0) (y 1) (head (y 2)) (kvHead (y 2)) (lane (y 2))

/-- What the reference's one block holds: the sum over every key. -/
theorem block_eq (c : Dev nD) (u : Fin cfg0.N) (b : Fin 5) (t : Fin 5120) (cc : Fin 3584) :
    @Eq EReal (out0_8 (iblk m c 0 u) (iblk m c 1 u) (iblk m c 2 u) (iblk m c 3 u) (iblk m c 4 u) (iblk m c 5 u) (iblk m c 6 u) (iblk m c 7 u) (ix3 b t cc))
      (out (args m c) b t (head cc) (kvHead cc) (lane cc)) := by
  unfold out0_8
  frame_out
  have hc := cc.isLt
  have hg : (kvHead cc).val = cc.val / 128 / 7 := rfl
  have hd : (head cc).val = cc.val / 128 := rfl
  have hn : 4 * b.val + (kvHead cc).val < 20 := by have := b.isLt; have := (kvHead cc).isLt; omega
  have hx : 5120 * ((head cc).val % 7) + t.val < 35840 := by have := t.isLt; omega
  have hr : (head cc).val % 7 < 7 := Nat.mod_lt _ (by omega)
  have hh : (head cc).val = 7 * (kvHead cc).val + (head cc).val % 7 := by omega
  refine (pay1_apply _ _ _ _ b t cc ⟨_, hn⟩ rfl ⟨_, hx⟩ rfl).trans ?_
  have hps : @Eq EReal (k0_pay2 (iblk m c 7 u) (ix3 0 0 0)) (aPs m c ix0) := by
    unfold_payloads
    pointwise
    exact iblk7 m c u
  refine congrArg₂ (· * ·) (Finset.sum_congr rfl fun j _ => ?_) (congrArg₂ (· * ·) hps (iblk6 m c u b (kvHead cc) ⟨_, hn⟩ rfl (lane cc)))
  refine congrArg₂ (· * ·) ((pay3_apply _ _ _ _ _ _ ⟨_, hn⟩ ⟨_, hx⟩ j).trans ?_) (iblk2 m c u b (kvHead cc) ⟨_, hn⟩ rfl j (lane cc))
  have e0 := fun e => iblk0 m c u b (kvHead cc) ⟨_, hn⟩ rfl ⟨_, hr⟩ t ⟨_, hx⟩ rfl (head cc) hh e
  have e1 := fun e => iblk1 m c u b (kvHead cc) ⟨_, hn⟩ rfl j e
  have e3 := iblk3 m c u b (kvHead cc) ⟨_, hn⟩ rfl ⟨_, hr⟩ t ⟨_, hx⟩ rfl (head cc) hh
  have e4 := iblk4 m c u b (kvHead cc) ⟨_, hn⟩ rfl ⟨_, hr⟩ t ⟨_, hx⟩ rfl (head cc) hh
  have e5 := iblk5 m c u b (kvHead cc) ⟨_, hn⟩ rfl j
  have em : (5120 * ((head cc).val % 7) + t.val) % 5120 = t.val := by have := t.isLt; omega
  refine congr (congr (congr (congrArg code (Finset.sum_congr rfl fun e _ => congrArg₂ (· * ·) (e0 e) (e1 e))) e3)
    (congrArg (Ideal.div 1) (iblk7 m c u))) ?_
  refine congrArg₂ IntOp.andi ?_ (congrArg₂ (IntOp.cmpi .eq) e5 e4)
  show IntOp.cmpi .sle _ (BitVec.ofNat 32 ((5120 * ((head cc).val % 7) + t.val) % 5120)) = _
  rw [em]

/-- The array after the reference's run. -/
theorem arr_eq (c : Dev nD) : (dats m 0 c).arrAt 8 cfg0.N = result m c := by
  refine (dats m 0 c).arrAt_eq_of_covers 8 _ (by decide +kernel) fun t hf y => ?_
  blk_simp
  rw [after0_8]
  have he : (win0_8.blk t).view.emb y = (y : S5x5120x3584.Idx) := by
    funext a; apply Fin.ext
    refine Pipeline.Window.rect_emb_val_of_index_zero win0_8 t a ?_ y
    fin_cases a <;> rfl
  rw [he]
  have hy : (y : S5x5120x3584.Idx) = ix3 (y 0) (y 1) (y 2) := by funext a; fin_cases a <;> rfl
  exact (congrArg _ hy).trans (block_eq m c t (y 0) (y 1) (y 2))

end Cert.ReferenceIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KFrame
public import proofs.«01_k».proof.Proof.KHost
public import proofs.«01_k».proof.Proof.KIValue
public import proofs.«01_k».proof.Proof.RefValue
public import Idealize.ShloMosaic.Adequacy
public import Idealize.ShloMosaic.Init

@[expose] public section

noncomputable section

namespace Cert.Proof

open Idealize.ShloMosaic Idealize.SL.Sem

/-- The facts the precondition's two slices take. -/
theorem pre_facts : Cert.Pre_sorted_segments.Facts := ⟨by decide, by decide⟩

/-- The precondition says that the segment ids are sorted along each row. -/
theorem sorted_of_pre (m : (ℓ : Loc Cert.KernelIdeal.nD Cert.KernelIdeal.τ Cert.KernelIdeal.sig) → Buf (Elt Ideal) ℓ)
    (h : Cert.Pre_KernelIdeal_sorted_segments (hPre_sorted_segments := pre_facts) m) (c : Dev Cert.KernelIdeal.nD) :
    Cert.Spec.Sorted (Cert.KernelIdeal.Hand.aSeg m c) := fun b j hj => by
  have e := congrFun (h c) (ix2 b ⟨j, by omega⟩ : Cert.Pre_sorted_segments.S5x5119.Idx)
  refine (IntOp.cmpi_sle.mp ((congrArg₂ (IntOp.cmpi .sle) ?_ ?_).trans e))
  · exact congrArg (Cert.KernelIdeal.Hand.aSeg m c) (by
      funext a; apply Fin.ext
      fin_cases a
      · show b.val = 0 + b.val; omega
      · show j = 0 + j; omega)
  · exact congrArg (Cert.KernelIdeal.Hand.aSeg m c) (by
      funext a; apply Fin.ext
      fin_cases a
      · show b.val = 0 + b.val; omega
      · show j + 1 = 1 + j; omega)

/-- Kernel and reference leave the same array. -/
theorem algebraic : Cert.algebraic_KernelIdeal_ReferenceIdeal_pre_sorted_segments (hKernelIdeal := Cert.KernelIdeal.Gen.facts)
    (hReferenceIdeal := Cert.ReferenceIdeal.Gen.facts) (hPre_sorted_segments := pre_facts) := by
  intro m g m' g' hpre hargs
  refine ⟨fun c => Cert.KernelIdeal.Hand.result m c, Cert.KernelIdeal.Hand.run_result m g (sorted_of_pre m hpre), ?_⟩
  refine (θ_run _ _ _).mono (fun r h c => ⟨(h c).1.trans ?_, (h c).2⟩) (Cert.ReferenceIdeal.Value.run_blocks m' g')
  have ea : Cert.ReferenceIdeal.Hand.args m' c = Cert.KernelIdeal.Hand.args m c := by
    obtain ⟨h0, h1, h2, h3, h4, h5, h6, h7⟩ := hargs c
    unfold Cert.ReferenceIdeal.Hand.args Cert.KernelIdeal.Hand.args
    exact congr (congr (congr (congr (congr (congr (congr (congrArg Cert.Spec.Args.mk h0) h1) h2) h3) h4) h5) h6) h7
  refine (Cert.ReferenceIdeal.Hand.arr_eq m' c).trans ?_
  unfold Cert.ReferenceIdeal.Hand.result
  rw [ea]
  rfl

theorem claim : Cert.Claim :=
  ⟨Cert.Kernel.Gen.facts, Cert.KernelIdeal.Gen.facts, Cert.ReferenceIdeal.Gen.facts, pre_facts,
    fun m ρ _ => Cert.Kernel.Hand.frame m ρ (Cert.Kernel.Hand.hyps m),
    fun m ρ _ => Cert.KernelIdeal.Hand.frame m ρ (Cert.KernelIdeal.Hand.hyps m),
    fun m ρ _ => Cert.KernelIdeal.Hand.frame m ρ (Cert.KernelIdeal.Hand.hyps m),
    fun m ρ _ => Cert.ReferenceIdeal.Gen.frame m ρ,
    fun m ρ _ => Cert.ReferenceIdeal.Gen.frame m ρ,
    trivial, algebraic⟩

end Cert.Proof

end
